-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S512x2x256 Cert.KernelIdeal.S512x1x256
  ∧ IdealRules.bf16_pair.PackStatement Cert.KernelIdeal.S16x256
  ∧ IdealRules.bf16_pair.Statement Cert.KernelIdeal.S16x2x256 Cert.KernelIdeal.S16x1x256
  ∧ IdealRules.bf16_pair.Statement Cert.KernelIdeal.S1x2x256 Cert.KernelIdeal.S1x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x8192 : Shape := ⟨3, ![192, 1, 8192]⟩
abbrev S8192x32x2x64 : Shape := ⟨4, ![8192, 32, 2, 64]⟩
abbrev S8192x32x2x32 : Shape := ⟨4, ![8192, 32, 2, 32]⟩
abbrev S8192x32x16 : Shape := ⟨3, ![8192, 32, 16]⟩
abbrev S8192x32 : Shape := ⟨2, ![8192, 32]⟩
abbrev S192x8192 : Shape := ⟨2, ![192, 8192]⟩
abbrev S32x2x64x8192 : Shape := ⟨4, ![32, 2, 64, 8192]⟩
abbrev S4096x8192 : Shape := ⟨2, ![4096, 8192]⟩
abbrev S32x2x32x8192 : Shape := ⟨4, ![32, 2, 32, 8192]⟩
abbrev S2048x8192 : Shape := ⟨2, ![2048, 8192]⟩
abbrev S32x16x8192 : Shape := ⟨3, ![32, 16, 8192]⟩
abbrev S32x8192 : Shape := ⟨2, ![32, 8192]⟩
abbrev S4096x256 : Shape := ⟨2, ![4096, 256]⟩
abbrev S2048x256 : Shape := ⟨2, ![2048, 256]⟩
abbrev S32x16x256 : Shape := ⟨3, ![32, 16, 256]⟩
abbrev S32x256 : Shape := ⟨2, ![32, 256]⟩
abbrev S192x256 : Shape := ⟨2, ![192, 256]⟩
abbrev S8192x256 : Shape := ⟨2, ![8192, 256]⟩
abbrev S512x256 : Shape := ⟨2, ![512, 256]⟩
abbrev S1x256 : Shape := ⟨2, ![1, 256]⟩
abbrev S1x16x256 : Shape := ⟨3, ![1, 16, 256]⟩
abbrev S16x256 : Shape := ⟨2, ![16, 256]⟩
abbrev S8x256 : Shape := ⟨2, ![8, 256]⟩

abbrev nBuf : Space → Nat
  | .hbm => 13
  | .vmem => 13
  | .smem => 0
  | _ => 0

abbrev bufTy : (tb : Table) → Fin (tcTables nBuf tb) → BufTy
  | .hbm, ⟨0, _⟩ => ⟨S192x1x8192, .bf16⟩
  | .hbm, ⟨1, _⟩ => ⟨S8192x32x2x64, .i8⟩
  | .hbm, ⟨2, _⟩ => ⟨S8192x32x2x32, .i8⟩
  | .hbm, ⟨3, _⟩ => ⟨S8192x32x16, .i8⟩
  | .hbm, ⟨4, _⟩ => ⟨S8192x32, .i16⟩
  | .hbm, ⟨5, _⟩ => ⟨S192x8192, .bf16⟩
  | .hbm, ⟨6, _⟩ => ⟨S32x2x64x8192, .i8⟩
  | .hbm, ⟨7, _⟩ => ⟨S4096x8192, .i8⟩
  | .hbm, ⟨8, _⟩ => ⟨S32x2x32x8192, .i8⟩
  | .hbm, ⟨9, _⟩ => ⟨S2048x8192, .i8⟩
  | .hbm, ⟨10, _⟩ => ⟨S32x16x8192, .i8⟩
  | .hbm, ⟨11, _⟩ => ⟨S32x8192, .i16⟩
  | .hbm, ⟨12, _⟩ => ⟨S192x8192, .bf16⟩
  | .local _ .vmem, ⟨0, _⟩ => ⟨S192x8192, .bf16⟩
  | .local _ .vmem, ⟨1, _⟩ => ⟨S4096x256, .i8⟩
  | .local _ .vmem, ⟨2, _⟩ => ⟨S4096x256, .i8⟩
  | .local _ .vmem, ⟨3, _⟩ => ⟨S2048x256, .i8⟩
  | .local _ .vmem, ⟨4, _⟩ => ⟨S2048x256, .i8⟩
  | .local _ .vmem, ⟨5, _⟩ => ⟨S32x16x256, .i8⟩
  | .local _ .vmem, ⟨6, _⟩ => ⟨S32x16x256, .i8⟩
  | .local _ .vmem, ⟨7, _⟩ => ⟨S32x256, .i16⟩
  | .local _ .vmem, ⟨8, _⟩ => ⟨S32x256, .i16⟩
  | .local _ .vmem, ⟨9, _⟩ => ⟨S192x256, .bf16⟩
  | .local _ .vmem, ⟨10, _⟩ => ⟨S192x256, .bf16⟩
  | .local _ .vmem, ⟨11, _⟩ => ⟨S8192x256, .bf16⟩
  | .local _ .vmem, ⟨12, _⟩ => ⟨S512x256, .i32⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S512x2x256 : Shape := ⟨3, ![512, 2, 256]⟩
abbrev S512x1x256 : Shape := ⟨3, ![512, 1, 256]⟩
abbrev S16x2x256 : Shape := ⟨3, ![16, 2, 256]⟩
abbrev S16x1x256 : Shape := ⟨3, ![16, 1, 256]⟩
abbrev S1x2x256 : Shape := ⟨3, ![1, 2, 256]⟩
abbrev S1x1x256 : Shape := ⟨3, ![1, 1, 256]⟩
  | .local _ .vmem, ⟨12, _⟩ => ⟨S512x2x256, .bf16⟩
variable {F : FTy → Type} [FloatOps F]
-- ==== ReferenceIdeal.lean ====
abbrev S192x1x8192 : Shape := ⟨3, ![192, 1, 8192]⟩
abbrev S8192x32x2x64 : Shape := ⟨4, ![8192, 32, 2, 64]⟩
abbrev S8192x32x2x32 : Shape := ⟨4, ![8192, 32, 2, 32]⟩
abbrev S8192x32x16 : Shape := ⟨3, ![8192, 32, 16]⟩
abbrev S8192x32 : Shape := ⟨2, ![8192, 32]⟩
abbrev S192x8192 : Shape := ⟨2, ![192, 8192]⟩
abbrev S8192x32x1 : Shape := ⟨3, ![8192, 32, 1]⟩
abbrev S8192x32x2x4x2 : Shape := ⟨5, ![8192, 32, 2, 4, 2]⟩
abbrev S192x1x32x2x4x32 : Shape := ⟨6, ![192, 1, 32, 2, 4, 32]⟩
abbrev S8192x32x2x2x16 : Shape := ⟨5, ![8192, 32, 2, 2, 16]⟩
abbrev S8192x32x2x1x2 : Shape := ⟨5, ![8192, 32, 2, 1, 2]⟩
abbrev S8192x32x2x2 : Shape := ⟨4, ![8192, 32, 2, 2]⟩
abbrev S8192x32x2x2x1 : Shape := ⟨5, ![8192, 32, 2, 2, 1]⟩
abbrev S192x1x32x2x1x32 : Shape := ⟨6, ![192, 1, 32, 2, 1, 32]⟩
abbrev S192x1x32x2x32 : Shape := ⟨5, ![192, 1, 32, 2, 32]⟩

abbrev nBuf : Space → Nat
  | .hbm => 6
  | .vmem => 6
  | .smem => 0
  | _ => 0

abbrev bufTy : (tb : Table) → Fin (tcTables nBuf tb) → BufTy
  | .hbm, ⟨0, _⟩ => ⟨S192x1x8192, .bf16⟩
  | .hbm, ⟨1, _⟩ => ⟨S8192x32x2x64, .i8⟩
  | .hbm, ⟨2, _⟩ => ⟨S8192x32x2x32, .i8⟩
  | .hbm, ⟨3, _⟩ => ⟨S8192x32x16, .i8⟩
  | .hbm, ⟨4, _⟩ => ⟨S8192x32, .i16⟩
  | .hbm, ⟨5, _⟩ => ⟨S192x8192, .bf16⟩
  | .local _ .vmem, ⟨0, _⟩ => ⟨S192x1x8192, .bf16⟩
  | .local _ .vmem, ⟨1, _⟩ => ⟨S8192x32x2x64, .i8⟩
  | .local _ .vmem, ⟨2, _⟩ => ⟨S8192x32x2x32, .i8⟩
  | .local _ .vmem, ⟨3, _⟩ => ⟨S8192x32x16, .i8⟩
  | .local _ .vmem, ⟨4, _⟩ => ⟨S8192x32, .i16⟩
  | .local _ .vmem, ⟨5, _⟩ => ⟨S192x8192, .bf16⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S192x1x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x32x2x64 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x32x2x32 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x32x16 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x32 .i16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Claims.lean ====
/- The three frames and the `preserves` claim (hand-written, untrusted): each frame is the generated one, each rewrite's
   statement is closed by its rule's own proof. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import Idealize.ShloMosaic.Lib.Bf16PairInverse

@[expose] public section

noncomputable section

open Idealize.ShloMosaic Idealize.SL.Sem

namespace Cert.Proof

/-- The kernel ends with its arguments unchanged and its semaphores at zero. -/
theorem frame_p : Cert.quiescent_Kernel := fun m ρ _ => Cert.Kernel.Gen.frame m ρ

/-- The idealized kernel ends with its arguments unchanged and its semaphores at zero. -/
theorem frame_pi : Cert.quiescent_KernelIdeal := fun m ρ _ => Cert.KernelIdeal.Gen.frame m ρ

/-- The reference ends with its arguments unchanged and its semaphores at zero. -/
theorem frame_ri : Cert.quiescent_ReferenceIdeal := fun m ρ _ => Cert.ReferenceIdeal.Gen.frame m ρ

/-- The rewrites' statements: the re-typed scratch, the pack of two halves into words, and the words read as rows at the
    three pairs of shapes the kernel stores, loads and spreads. -/
theorem preserves : Cert.preserves_Kernel_KernelIdeal :=
  open Cert.KernelIdeal IdealRules.bf16_pair in
  ⟨bufferStatement S512x2x256 S512x1x256, packStatement S16x256, statement S16x2x256 S16x1x256,
    statement S1x2x256 S1x1x256, statement S16x256 S8x256⟩

end Cert.Proof

end
-- ==== Proof.Pieces.lean ====
/- The body's stores as two formulas: the scratch of scaled rows is filled by 32 stores of one form, the scratch of
   weights by 512 stores of one form. The run found the same stores one by one; the two lists are the same by
   evaluation (hand-written, untrusted). -/
module

public import proofs.«01_k».proof.Proof.Gen.KernelIdeal.Frame

@[expose] public section

noncomputable section

namespace Cert.KernelIdeal.Pieces

open Cert.KernelIdeal Cert.KernelIdeal.Gen Idealize.ShloMosaic

variable {F : FTy → Type} [FloatOps F]

/-! ## What one store writes -/

/-- Row `n` of the super-block scales times the sixteen sub-block scales of super-block `n`, each product twice: as the
    low and as the high half of its word. -/
def effPay (n : Nat) (h : S32x256.Slices ![n, 0] S1x256) (d4 : FVec F S32x256 .f32) (sc : Vec F S1x16x256 .i8) :
    Vec F S16x2x256 .bf16 :=
  have p : FVec F S16x256 .f32 :=
    mulf (broadcastTo S16x256 (extractStridedSlice S1x256 ![n, 0] d4 h) broadcasts_S1x256_S16x256)
      (sitofp .f32 (shapeCast S16x256 sc shapeCasts_S1x16x256_S16x256 : IVec S16x256 8))
  interleaveRows S16x2x256 (shapeCast S16x1x256 (truncf .bf16 p) shapeCasts_S16x256_S16x1x256)
    (shapeCast S16x1x256 (truncf .bf16 p) shapeCasts_S16x256_S16x1x256) bitcasts_S16x2x256_w16_S16x1x256_w32

/-- The low-nibble words brought to their place: for the first two fields up by two bits, for the last two down. -/
def loWord (f : Nat) (lo : IVec S8x256 32) : IVec S8x256 32 :=
  match f with
  | 0 => shli lo (broadcast S8x256 2#32)
  | 1 => shli lo (broadcast S8x256 2#32)
  | _ => shrsi lo (broadcast S8x256 2#32)

/-- The high-pair words brought to their place: up by 6, 4, 2 and 0 bits for the four fields. -/
def hiWord (f : Nat) (hi : IVec S8x256 32) : IVec S8x256 32 :=
  match f with
  | 0 => shli hi (broadcast S8x256 6#32)
  | 1 => shli hi (broadcast S8x256 4#32)
  | 2 => shli hi (broadcast S8x256 2#32)
  | _ => hi

/-- The joined words of field `f`: four times the code less 32, one per byte. -/
def joined (f : Nat) (ql qh : Vec F S32x256 .i8) : IVec S8x256 32 :=
  ori (andi (loWord f (bitcast S8x256 32 (shapeCast S32x256 ql shapeCasts_S32x256_S32x256 : IVec S32x256 8)
      bitcasts_S32x256_w8_S8x256_w32)) (broadcast S8x256 1010580540#32))
    (andi (hiWord f (xori (bitcast S8x256 32 (shapeCast S32x256 qh shapeCasts_S32x256_S32x256 : IVec S32x256 8)
      bitcasts_S32x256_w8_S8x256_w32) (broadcast S8x256 2863311530#32))) (broadcast S8x256 3233857728#32))

/-- The bytes of the joined words as numbers. -/
def codes (f : Nat) (ql qh : Vec F S32x256 .i8) : FVec F S32x256 .bf16 :=
  sitofp .bf16 (bitcast S32x256 8 (joined (F := F) f ql qh) bitcasts_S8x256_w32_S32x256_w8 : IVec S32x256 8)

/-- One row of a pair, eight times. -/
def spread (v : FVec F S1x256 .bf16) : FVec F S8x256 .bf16 :=
  concatenate S8x256 0 [⟨S1x256, v⟩, ⟨S1x256, v⟩, ⟨S1x256, v⟩, ⟨S1x256, v⟩, ⟨S1x256, v⟩, ⟨S1x256, v⟩, ⟨S1x256, v⟩, ⟨S1x256, v⟩]
    concatenates_S1x256_S1x256_S1x256_S1x256_S1x256_S1x256_S1x256_S1x256_S8x256_d0

/-- A loaded pair spread over sixteen rows: its low half on the even ones, its high half on the odd ones. -/
def scaleRows (raw : Vec F S1x2x256 .bf16) : FVec F S16x256 .bf16 :=
  interleaveRows S16x256
    (spread (shapeCast S1x256 (rowsOfParity 0 S1x1x256 raw bitcasts_S1x2x256_w16_S1x1x256_w32) shapeCasts_S1x1x256_S1x256))
    (spread (shapeCast S1x256 (rowsOfParity 1 S1x1x256 raw bitcasts_S1x2x256_w16_S1x1x256_w32) shapeCasts_S1x1x256_S1x256))
    bitcasts_S16x256_w16_S8x256_w32

/-- The half `g` of the code rows of field `f`, times the spread scale. -/
def wPay (f g : Nat) (h : S32x256.Slices ![16 * g, 0] S16x256) (ql qh : Vec F S32x256 .i8) (raw : Vec F S1x2x256 .bf16) :
    FVec F S16x256 .bf16 :=
  shapeCast S16x256 (mulf (extractStridedSlice S16x256 ![16 * g, 0] (codes f ql qh) h) (scaleRows raw))
    shapeCasts_S16x256_S16x256

/-! ## Where the loads and stores lie -/

/-- Super-block `n`'s rows of scales lie in their scratch. -/
theorem inb_eff (n : Nat) (h : n < 32) : ∀ a : Fin 3, (![16 * n, 0, 0] : Fin 3 → Nat) a + S16x2x256.size a ≤ S512x2x256.size a := by
  intro a; match a with
  | ⟨0, _⟩ => show 16 * n + 16 ≤ 512; omega
  | ⟨1, _⟩ => show 0 + 2 ≤ 2; omega
  | ⟨2, _⟩ => show 0 + 256 ≤ 256; omega

/-- Super-block `n`'s integer scales lie in their block. -/
theorem inb_sc (n : Nat) (h : n < 32) : ∀ a : Fin 3, (![n, 0, 0] : Fin 3 → Nat) a + S1x16x256.size a ≤ S32x16x256.size a := by
  intro a; match a with
  | ⟨0, _⟩ => show n + 1 ≤ 32; omega
  | ⟨1, _⟩ => show 0 + 16 ≤ 16; omega
  | ⟨2, _⟩ => show 0 + 256 ≤ 256; omega

/-- Sub-block `j`'s pair of scales lies in the scratch. -/
theorem inb_pair (j : Nat) (h : j < 512) : ∀ a : Fin 3, (![j, 0, 0] : Fin 3 → Nat) a + S1x2x256.size a ≤ S512x2x256.size a := by
  intro a; match a with
  | ⟨0, _⟩ => show j + 1 ≤ 512; omega
  | ⟨1, _⟩ => show 0 + 2 ≤ 2; omega
  | ⟨2, _⟩ => show 0 + 256 ≤ 256; omega

/-- Sub-block `j`'s weights lie in their scratch. -/
theorem inb_w (j : Nat) (h : j < 512) : ∀ a : Fin 2, (![16 * j, 0] : Fin 2 → Nat) a + S16x256.size a ≤ S8192x256.size a := by
  intro a; match a with
  | ⟨0, _⟩ => show 16 * j + 16 ≤ 8192; omega
  | ⟨1, _⟩ => show 0 + 256 ≤ 256; omega

/-- The row the low nibbles of weight rows `16j … 16j+15` start at (two fields share a byte row). -/
abbrev qlRow (j : Nat) : Nat := 64 * (j / 8) + 32 * (j / 2 % 2)

/-- The row the high pairs of weight rows `16j … 16j+15` start at (four fields share a byte row). -/
abbrev qhRow (j : Nat) : Nat := 32 * (j / 8)

/-- Sub-block `j`'s low nibbles lie in their block. -/
theorem inb_ql (j : Nat) (h : j < 512) : ∀ a : Fin 2, (![qlRow j, 0] : Fin 2 → Nat) a + S32x256.size a ≤ S4096x256.size a := by
  intro a; match a with
  | ⟨0, _⟩ => show 64 * (j / 8) + 32 * (j / 2 % 2) + 32 ≤ 4096; omega
  | ⟨1, _⟩ => show 0 + 256 ≤ 256; omega

/-- Sub-block `j`'s high pairs lie in their block. -/
theorem inb_qh (j : Nat) (h : j < 512) : ∀ a : Fin 2, (![qhRow j, 0] : Fin 2 → Nat) a + S32x256.size a ≤ S2048x256.size a := by
  intro a; match a with
  | ⟨0, _⟩ => show 32 * (j / 8) + 32 ≤ 2048; omega
  | ⟨1, _⟩ => show 0 + 256 ≤ 256; omega

/-- Row `n` can be cut out of the half-precision scales. -/
theorem slices_d (n : Nat) (h : n < 32) : S32x256.Slices ![n, 0] S1x256 :=
  (by decide : ∀ n : Fin 32, S32x256.Slices ![n.val, 0] S1x256) ⟨n, h⟩

/-- Either half of a field's 32 rows can be cut out. -/
theorem slices_w (j : Nat) : S32x256.Slices ![16 * (j % 2), 0] S16x256 :=
  (by decide : ∀ g : Fin 2, S32x256.Slices ![16 * g.val, 0] S16x256) ⟨j % 2, by omega⟩

/-! ## The two lists, last store first -/

section Lists

variable (arg2 : Memref sig .tc .vmem S4096x256 .i8) (harg2 : arg2.IsWhole) (arg3 : Memref sig .tc .vmem S2048x256 .i8) (harg3 : arg3.IsWhole)
  (arg4 : Memref sig .tc .vmem S32x16x256 .i8) (harg4 : arg4.IsWhole) (arg5 : Memref sig .tc .vmem S32x256 .i16) (harg5 : arg5.IsWhole)
  (arg8 : Memref sig .tc .vmem S512x2x256 .bf16)
  (x1 : Vec F S4096x256 .i8) (x2 : Vec F S2048x256 .i8) (x3 : Vec F S32x16x256 .i8) (x4 : Vec F S32x256 .i16)

/-- The store of super-block `n`'s scaled rows. -/
def effPiece (n : Nat) (h : n < 32) : View.Piece (Elt F) S512x2x256 .bf16 :=
  ⟨Rect.unit ![16 * n, 0, 0] S16x2x256.size (inb_eff n h),
    effPay n (slices_d n h)
      (k0_pay1 (View.readAt (Elt F) arg5.view (Rect.unit (s := S32x256) ![0, 0] S32x256.size inb_S32x256_S32x256_0_0).toLoadRect (harg5.unread x4)))
      (View.readAt (Elt F) arg4.view (Rect.unit (s := S32x16x256) ![n, 0, 0] S1x16x256.size (inb_sc n h)).toLoadRect (harg4.unread x3))⟩

/-- The stores of the first `n` super-blocks. -/
def effList : (n : Nat) → n ≤ 32 → List (View.Piece (Elt F) S512x2x256 .bf16)
  | 0, _ => []
  | n + 1, h => effPiece arg4 harg4 arg5 harg5 x3 x4 n h :: effList n (Nat.le_of_succ_le h)

/-- The store of weight rows `16j … 16j+15`. -/
def wPiece (j : Nat) (h : j < 512) : View.Piece (Elt F) S8192x256 .bf16 :=
  ⟨Rect.unit ![16 * j, 0] S16x256.size (inb_w j h),
    wPay (j / 2 % 4) (j % 2) (slices_w j)
      (View.readAt (Elt F) arg2.view (Rect.unit (s := S4096x256) ![qlRow j, 0] S32x256.size (inb_ql j h)).toLoadRect (harg2.unread x1))
      (View.readAt (Elt F) arg3.view (Rect.unit (s := S2048x256) ![qhRow j, 0] S32x256.size (inb_qh j h)).toLoadRect (harg3.unread x2))
      (arg8.view.readCov (effList arg4 harg4 arg5 harg5 x3 x4 32 (Nat.le_refl 32))
        (Rect.unit (s := S512x2x256) ![j, 0, 0] S1x2x256.size (inb_pair j h)).toLoadRect)⟩

/-- The stores of the first `16 j` weight rows. -/
def wList : (j : Nat) → j ≤ 512 → List (View.Piece (Elt F) S8192x256 .bf16)
  | 0, _ => []
  | j + 1, h => wPiece arg2 harg2 arg3 harg3 arg4 harg4 arg5 harg5 arg8 x1 x2 x3 x4 j h :: wList j (Nat.le_of_succ_le h)

end Lists

/-! ## The run's stores are these -/

section Run

variable (c : Dev nD) (i : grid0.Coords) (arg1 : Memref sig .tc .vmem S192x8192 .bf16) (harg1 : arg1.IsWhole) (arg2 : Memref sig .tc .vmem S4096x256 .i8) (harg2 : arg2.IsWhole) (arg3 : Memref sig .tc .vmem S2048x256 .i8) (harg3 : arg3.IsWhole) (arg4 : Memref sig .tc .vmem S32x16x256 .i8) (harg4 : arg4.IsWhole) (arg5 : Memref sig .tc .vmem S32x256 .i16) (harg5 : arg5.IsWhole) (arg6 : Memref sig .tc .vmem S192x256 .bf16) (harg6 : arg6.IsWhole) (arg7 : Memref sig .tc .vmem S8192x256 .bf16) (harg7 : arg7.IsWhole) (arg8 : Memref sig .tc .vmem S512x2x256 .bf16) (harg8 : arg8.IsWhole)
    (x0 : Vec F S192x8192 .bf16) (x1 : Vec F S4096x256 .i8) (x2 : Vec F S2048x256 .i8) (x3 : Vec F S32x16x256 .i8) (x4 : Vec F S32x256 .i16)

/-- The stores into the scratch of scaled rows. -/
theorem eff_eq : kernelRun0_A.sl.HS1_32 c arg4 harg4 arg5 harg5 x3 x4
    = effList arg4 harg4 arg5 harg5 x3 x4 32 (Nat.le_refl 32) := by
  sl_kernel_rfl

/-- The stores into the scratch of weights. -/
theorem w_eq : kernelRun0_A.sl.HS0_512 c arg2 harg2 arg3 harg3 arg4 harg4 arg5 harg5 arg8 x1 x2 x3 x4
    = wList arg2 harg2 arg3 harg3 arg4 harg4 arg5 harg5 arg8 x1 x2 x3 x4 512 (Nat.le_refl 512) := by
  sl_kernel_rfl

/-- The one store of the result: the activations times the weights as the scratch holds them. -/
theorem out_eq : (kernelRun0_A c i arg1 harg1 arg2 harg2 arg3 harg3 arg4 harg4 arg5 harg5 arg6 harg6 arg7 harg7 arg8 harg8 x0 x1 x2 x3 x4).1
    = [⟨Rect.unit ![0, 0] S192x256.size inb_S192x256_S192x256_0_0,
        k0_pay1122 (View.readAt (Elt F) arg1.view (Rect.unit ![0, 0] S192x8192.size inb_S192x8192_S192x8192_0_0).toLoadRect (harg1.unread x0))
          (arg7.view.readCov (wList arg2 harg2 arg3 harg3 arg4 harg4 arg5 harg5 arg8 x1 x2 x3 x4 512 (Nat.le_refl 512))
            (Rect.unit ![0, 0] S8192x256.size inb_S8192x256_S8192x256_0_0).toLoadRect)⟩] := by
  rw [← w_eq c arg2 harg2 arg3 harg3 arg4 harg4 arg5 harg5 arg8 x1 x2 x3 x4]
  sl_kernel_rfl

end Run

end Cert.KernelIdeal.Pieces

end
-- ==== Proof.Bits.lean ====
/- Codes in bytes (hand-written, untrusted): the kernel builds four codes at once in a word, each as four times the code less
   32; the reference joins a nibble and a pair of bits. Bit by bit they are the same. -/
module

public import Idealize.ShloMosaic.Lib.BitcastFour

@[expose] public section

namespace Cert.Bits

open Idealize.ShloMosaic Idealize.ShloMosaic.ValueIdx

/-- The code of field `f` as the reference joins it: the byte `a` of low nibbles holds two fields, the byte `b` of high pairs
    all four. -/
def code (f : Nat) (a b : BitVec 8) : BitVec 32 :=
  match f with
  | 0 => IntOp.ori (IntOp.andi (a.setWidth 32) 15#32)
      (IntOp.shli .vector (IntOp.andi (IntOp.shrsi .vector (b.setWidth 32) 0#32) 3#32) 4#32)
  | 1 => IntOp.ori (IntOp.andi (a.setWidth 32) 15#32)
      (IntOp.shli .vector (IntOp.andi (IntOp.shrsi .vector (b.setWidth 32) 2#32) 3#32) 4#32)
  | 2 => IntOp.ori (IntOp.shrsi .vector (a.setWidth 32) 4#32)
      (IntOp.shli .vector (IntOp.andi (IntOp.shrsi .vector (b.setWidth 32) 4#32) 3#32) 4#32)
  | _ => IntOp.ori (IntOp.shrsi .vector (a.setWidth 32) 4#32)
      (IntOp.shli .vector (IntOp.andi (IntOp.shrsi .vector (b.setWidth 32) 6#32) 3#32) 4#32)

/-- The low-nibble word brought to its place. -/
def loW (f : Nat) (lo : BitVec 32) : BitVec 32 :=
  match f with
  | 0 => IntOp.shli .vector lo 2#32
  | 1 => IntOp.shli .vector lo 2#32
  | _ => IntOp.shrsi .vector lo 2#32

/-- The high-pair word brought to its place. -/
def hiW (f : Nat) (hi : BitVec 32) : BitVec 32 :=
  match f with
  | 0 => IntOp.shli .vector hi 6#32
  | 1 => IntOp.shli .vector hi 4#32
  | 2 => IntOp.shli .vector hi 2#32
  | _ => hi

/-- The kernel's joined word. -/
def joinW (f : Nat) (lo hi : BitVec 32) : BitVec 32 :=
  IntOp.ori (IntOp.andi (loW f lo) 1010580540#32) (IntOp.andi (hiW f (IntOp.xori hi 2863311530#32)) 3233857728#32)

/-- Bit `i` of a byte of the joined word: two zeros, the nibble's four bits, the pair's low bit, the pair's high bit negated. -/
theorem joinW_bit (f : Nat) (hf : f < 4) (lo hi : BitVec 32) (k i : Nat) (hk : k < 4) (h : i < 8) :
    (joinW f lo hi).getLsbD (8 * k + i)
      = if i < 2 then false
        else if i < 6 then lo.getLsbD (8 * k + (i - 2 + 4 * (f / 2)))
        else if i = 6 then hi.getLsbD (8 * k + 2 * f)
        else !hi.getLsbD (8 * k + (2 * f + 1)) := by
  interval_cases f <;> interval_cases k <;> interval_cases i <;>
    simp [joinW, loW, hiW, IntOp.shli, IntOp.shrsi, IntOp.andi, IntOp.ori, IntOp.xori, BitVec.getLsbD_sshiftRight, BitVec.getElem_sshiftRight]

/-- A byte whose bits are a code's six bits, the last negated, over two zeros, is four times the code less 128. -/
theorem toInt_of_bits (f : Nat) (hf : f < 4) (a b B : BitVec 8)
    (h : ∀ i, i < 8 → B.getLsbD i
      = if i < 2 then false
        else if i < 6 then a.getLsbD (i - 2 + 4 * (f / 2))
        else if i = 6 then b.getLsbD (2 * f)
        else !b.getLsbD (2 * f + 1)) :
    B.toInt = 4 * (code f a b).toInt - 128 := by
  have key : ∀ p0 p1 p2 p3 p4 p5 : Bool, ∀ (B : BitVec 8) (C : BitVec 32),
      (∀ i, i < 8 → B.getLsbD i = (BitVec.ofBoolListLE [false, false, p0, p1, p2, p3, p4, !p5]).getLsbD i) →
      (∀ i, i < 32 → C.getLsbD i = (BitVec.ofBoolListLE [p0, p1, p2, p3, p4, p5]).getLsbD i) →
      B.toInt = 4 * C.toInt - 128 := by
    intro p0 p1 p2 p3 p4 p5 B C hB hC
    have eB : B = BitVec.ofBoolListLE [false, false, p0, p1, p2, p3, p4, !p5] := BitVec.eq_of_getLsbD_eq hB
    have eC : C = (BitVec.ofBoolListLE [p0, p1, p2, p3, p4, p5]).setWidth 32 := by
      apply BitVec.eq_of_getLsbD_eq
      intro i hi
      rw [hC i hi, BitVec.getLsbD_setWidth]
      simp [hi]
    subst eB eC
    revert p0 p1 p2 p3 p4 p5
    decide
  apply key (a.getLsbD (4 * (f / 2))) (a.getLsbD (1 + 4 * (f / 2))) (a.getLsbD (2 + 4 * (f / 2))) (a.getLsbD (3 + 4 * (f / 2)))
    (b.getLsbD (2 * f)) (b.getLsbD (2 * f + 1))
  · intro i hi
    rw [h i hi, BitVec.getLsbD_ofBoolListLE]
    interval_cases f <;> interval_cases i <;> simp
  · intro i hi
    have ma : (a.setWidth 32).msb = false := by rw [BitVec.msb_eq_getLsbD_last, BitVec.getLsbD_setWidth]; simp
    have mb : (b.setWidth 32).msb = false := by rw [BitVec.msb_eq_getLsbD_last, BitVec.getLsbD_setWidth]; simp
    rw [BitVec.getLsbD_ofBoolListLE]
    interval_cases f <;> interval_cases i <;>
      simp [ma, mb, code, IntOp.shli, IntOp.shrsi, IntOp.andi, IntOp.ori, BitVec.getLsbD_sshiftRight, BitVec.getElem_sshiftRight]

/-- Thirty-two-bit elements read at eight bits, at rank 2: bit `i` of row `r` is bit `8 (r % 4) + i` of word row `r / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4)
    (i : Nat) (hi : i < 8) :
    (bitcast ⟨2, ![R, n]⟩ 8 x h (ix2 p l)).getLsbD i = (x (ix2 a l)).getLsbD (8 * (p.val % 4) + i) := by
  rw [bitcast_getLsbD x h _ i hi (by decide)]
  have er : Shape.row (⟨2, ![R, n]⟩ : Shape) (ix2 p l) = p.val := rfl
  have e1 : (Shape.row (⟨2, ![R, n]⟩ : Shape) (ix2 p l) * 8 + i) / 32 = p.val / 4 := by rw [er]; omega
  have e2 : (Shape.row (⟨2, ![R, n]⟩ : Shape) (ix2 p l) * 8 + i) % 32 = 8 * (p.val % 4) + i := by rw [er]; omega
  rw [e2]
  congr 2
  funext c
  match c with
  | ⟨0, _⟩ => exact Fin.ext ((h.srcIdx_row _ _ _ ⟨0, Nat.zero_lt_two⟩ rfl).trans (e1.trans ha.symm))
  | ⟨1, _⟩ => exact Fin.ext (h.srcIdx_other _ _ _ ⟨1, Nat.one_lt_two⟩ (by show ¬ 1 + 2 = 2; omega))

/-- Row `p` of the bytes of the joined words is four times the code of that row's bytes less 128. -/
theorem joined_toInt {R r n : Nat} (f : Nat) (hf : f < 4) (ql qh : (⟨2, ![R, n]⟩ : Shape).Idx → BitVec 8)
    (h1 : (⟨2, ![R, n]⟩ : Shape).Bitcasts 8 ⟨2, ![r, n]⟩ 32) (h2 : (⟨2, ![r, n]⟩ : Shape).Bitcasts 32 ⟨2, ![R, n]⟩ 8)
    (W : (⟨2, ![r, n]⟩ : Shape).Idx → BitVec 32)
    (hW : ∀ i, W i = joinW f (bitcast ⟨2, ![r, n]⟩ 32 ql h1 i) (bitcast ⟨2, ![r, n]⟩ 32 qh h1 i))
    (p : Fin R) (l : Fin n) (hp : p.val / 4 < r) :
    (bitcast ⟨2, ![R, n]⟩ 8 W h2 (ix2 p l)).toInt = 4 * (code f (ql (ix2 p l)) (qh (ix2 p l))).toInt - 128 := by
  apply toInt_of_bits f hf
  intro i hi
  rw [bitcast_32_8_getLsbD_ix2 W h2 p l ⟨p.val / 4, hp⟩ rfl i hi, hW,
    joinW_bit f hf _ _ (p.val % 4) i (by omega) hi]
  have rd : ∀ (x : (⟨2, ![R, n]⟩ : Shape).Idx → BitVec 8) (q : Nat), q < 8 →
      (bitcast ⟨2, ![r, n]⟩ 32 x h1 (ix2 ⟨p.val / 4, hp⟩ l)).getLsbD (8 * (p.val % 4) + q) = (x (ix2 p l)).getLsbD q := by
    intro x q hq
    rw [bitcast_8_32_getLsbD_ix2 x h1 ⟨p.val / 4, hp⟩ l (8 * (p.val % 4) + q) (by omega) p (by show p.val = 4 * (p.val / 4) + _; omega)]
    congr 1; omega
  rw [rd qh (2 * f) (by omega), rd qh (2 * f + 1) (by omega)]
  by_cases h6 : i < 6
  · by_cases h2 : i < 2
    · simp [h2]
    · rw [rd ql (i - 2 + 4 * (f / 2)) (by omega)]
  · simp [h6]

end Cert.Bits
-- ==== Proof.Half.lean ====
/- Half-precision patterns (hand-written, untrusted): the kernel spells out the reading of a 16-bit pattern as a binary16
   number with integer operations; over the extended reals it is the number the pattern denotes. -/
module

public import Idealize.ShloMosaic.PureOps.Ideal
public import Idealize.ShloMosaic.Lib.ValueIdxCore

@[expose] public section

noncomputable section

namespace Cert.Half

open Idealize.ShloMosaic

/-- The number with sign `s`, biased exponent `E` and trailing significand `T` in a format of `e` exponent and `m`
    significand bits. -/
def value (e m : Nat) (s : Bool) (E T : Nat) : EReal :=
  let sgn : ℝ := if s then -1 else 1
  if E = 2 ^ e - 1 then (if T = 0 then (if s then ⊥ else ⊤) else ⊥)
  else if E = 0 then ((sgn * T * (2 : ℝ) ^ (1 - (2 ^ (e - 1) - 1 : Int) - m : Int) : ℝ) : EReal)
  else ((sgn * (2 ^ m + T : Nat) * (2 : ℝ) ^ ((E : Int) - (2 ^ (e - 1) - 1 : Int) - m) : ℝ) : EReal)

/-- A pattern cut into its three fields denotes that number. -/
theorem ieee_eq (e m w : Nat) (b : BitVec w) (s : Bool) (E T : Nat) (hE : E < 2 ^ e) (hT : T < 2 ^ m)
    (h : b.toNat = s.toNat * (2 ^ e * 2 ^ m) + E * 2 ^ m + T) : Ideal.ieee e m b = value e m s E T := by
  have hm : 0 < 2 ^ m := Nat.two_pow_pos m
  have he : 0 < 2 ^ e := Nat.two_pow_pos e
  have q : (E * 2 ^ m + T) / 2 ^ m = E := by
    rw [Nat.mul_comm, Nat.mul_add_div hm, Nat.div_eq_of_lt hT, Nat.add_zero]
  have d1 : b.toNat / 2 ^ m = s.toNat * 2 ^ e + E := by
    rw [h, show s.toNat * (2 ^ e * 2 ^ m) + E * 2 ^ m + T = 2 ^ m * (s.toNat * 2 ^ e) + (E * 2 ^ m + T) by ring,
      Nat.mul_add_div hm, q]
  have h1 : (b.extractLsb' 0 m).toNat = T := by
    rw [BitVec.extractLsb'_toNat, Nat.shiftRight_zero, h,
      show s.toNat * (2 ^ e * 2 ^ m) + E * 2 ^ m + T = T + 2 ^ m * (s.toNat * 2 ^ e + E) by ring,
      Nat.add_mul_mod_self_left, Nat.mod_eq_of_lt hT]
  have h2 : (b.extractLsb' m e).toNat = E := by
    rw [BitVec.extractLsb'_toNat, Nat.shiftRight_eq_div_pow, d1, Nat.add_comm, Nat.add_mul_mod_self_right, Nat.mod_eq_of_lt hE]
  have h3 : (b.extractLsb' (e + m) 1 == 1#1) = s := by
    have : (b.extractLsb' (e + m) 1).toNat = s.toNat := by
      rw [BitVec.extractLsb'_toNat, Nat.shiftRight_eq_div_pow, Nat.add_comm e m, Nat.pow_add, ← Nat.div_div_eq_div_mul, d1,
        Nat.mul_comm, Nat.mul_add_div he, Nat.div_eq_of_lt hE]
      cases s <;> rfl
    have e' : b.extractLsb' (e + m) 1 = BitVec.ofNat 1 s.toNat := BitVec.eq_of_toNat_eq (by rw [this]; cases s <;> rfl)
    rw [e']; cases s <;> rfl
  unfold Ideal.ieee value
  rw [h1, h2, h3]

/-- The sign's word. -/
def signW (b : BitVec 16) : BitVec 32 := IntOp.shli .vector (IntOp.andi (b.signExtend 32) 32768#32) 16#32

/-- The word of the other fifteen bits. -/
def magW (b : BitVec 16) : BitVec 32 := IntOp.andi (b.signExtend 32) 32767#32

/-- The pattern read by integer operations. -/
def half (b : BitVec 16) : EReal :=
  let sub : EReal := ((magW b).toInt : ℝ) * Ideal.ofBits .f32 0x33800000#32
  Scalar.select (IntOp.cmpi .slt (magW b) 1024#32)
    (Scalar.select (IntOp.cmpi .ne (signW b) 0#32) (Ideal.ofBits .f32 0x00000000#32 - sub) sub)
    (Scalar.select (IntOp.cmpi .sge (magW b) 31744#32)
      (Ideal.ofBits .f32 (IntOp.ori (IntOp.ori (IntOp.shli .vector (magW b) 13#32) 2139095040#32) (signW b)))
      (Ideal.ofBits .f32 (IntOp.ori (IntOp.addi (IntOp.shli .vector (magW b) 13#32) 939524096#32) (signW b))))

/-- The sign word as a number: the top bit at place 31. -/
theorem signW_toNat (b : BitVec 16) : (signW b).toNat = b.msb.toNat * 2 ^ 31 := by
  have : signW b = if b.msb then 2147483648#32 else 0#32 := by
    apply BitVec.eq_of_getLsbD_eq
    intro i hi
    rw [BitVec.msb_eq_getLsbD_last]
    unfold signW IntOp.shli IntOp.andi
    by_cases h : b.getLsbD 15 <;> simp only [h] <;> interval_cases i <;> simp [BitVec.getElem_signExtend] <;> simpa using h
  rw [this]; cases b.msb <;> rfl

/-- The magnitude word as a number: the low 15 bits. -/
theorem magW_toNat (b : BitVec 16) : (magW b).toNat = b.toNat % 2 ^ 15 := by
  have : magW b = (b.setWidth 15).setWidth 32 := by
    apply BitVec.eq_of_getLsbD_eq
    intro i hi
    unfold magW IntOp.andi
    interval_cases i <;> simp [BitVec.getElem_signExtend]
  rw [this]; simp; omega

/-- Putting the sign word on a word below `2^31` adds the two. -/
theorem or_sign (x : BitVec 32) (b : BitVec 16) (h : x.toNat < 2 ^ 31) :
    (IntOp.ori x (signW b)).toNat = b.msb.toNat * 2 ^ 31 + x.toNat := by
  unfold IntOp.ori
  rw [BitVec.toNat_or, signW_toNat, Nat.or_comm, Nat.mul_comm, ← Nat.two_pow_add_eq_or_of_lt h]

/-- A half-precision pattern is its sign bit and its magnitude. -/
theorem toNat_split (b : BitVec 16) : b.toNat = b.msb.toNat * 2 ^ 15 + b.toNat % 2 ^ 15 := by
  have := BitVec.msb_eq_decide b
  by_cases h : 2 ^ 15 ≤ b.toNat
  · have : b.msb = true := by rw [this]; simpa using h
    rw [this]; have := b.isLt; simp; omega
  · have : b.msb = false := by rw [this]; simpa using h
    rw [this]; simp; omega

/-- A significand 13 bits longer at an exponent 13 lower is the same number. -/
theorem scale_eq (r : ℝ) (E T : Nat) :
    r * (2 ^ 23 + T * 2 ^ 13 : Nat) * (2 : ℝ) ^ (((E + 112 : Nat) : Int) - (2 ^ (8 - 1) - 1 : Int) - (23 : Nat))
      = r * (2 ^ 10 + T : Nat) * (2 : ℝ) ^ ((E : Int) - (2 ^ (5 - 1) - 1 : Int) - (10 : Nat)) := by
  have e1 : ((E + 112 : Nat) : Int) - (2 ^ (8 - 1) - 1 : Int) - (23 : Nat) = ((E : Int) - 25) + (-13) := by
    push_cast; ring
  have e2 : (E : Int) - (2 ^ (5 - 1) - 1 : Int) - (10 : Nat) = (E : Int) - 25 := by push_cast; ring
  rw [e1, e2, zpow_add₀ (by norm_num : (2 : ℝ) ≠ 0)]
  push_cast
  norm_num
  ring

/-- Reading the pattern by integer operations gives the number it denotes. -/
theorem half_eq (b : BitVec 16) : half b = Ideal.ofBits .f16 b := by
  obtain ⟨M, hM⟩ : ∃ M, M = b.toNat % 2 ^ 15 := ⟨_, rfl⟩
  have hM15 : M < 2 ^ 15 := hM ▸ Nat.mod_lt _ (by decide)
  have mag := magW_toNat b
  rw [← hM] at mag
  have split := toNat_split b
  rw [← hM] at split
  have hmi : (magW b).toInt = M := by
    rw [BitVec.toInt_eq_toNat_cond, if_pos (by rw [mag]; omega), mag]
  have hs13 : (IntOp.shli .vector (magW b) 13#32).toNat = M * 2 ^ 13 := by
    unfold IntOp.shli
    rw [if_pos (by decide)]
    simp [mag, Nat.shiftLeft_eq]
    omega
  have rhs : Ideal.ofBits .f16 b = value 5 10 b.msb (M / 2 ^ 10) (M % 2 ^ 10) :=
    ieee_eq 5 10 16 b b.msb _ _ (by omega) (by omega) (by rw [split]; omega)
  have c1 : IntOp.cmpi .slt (magW b) 1024#32 = BitVec.ofBool (decide (M < 1024)) := by
    unfold IntOp.cmpi; congr 1
    rw [BitVec.slt_eq_decide, hmi]; simp
  have c2 : IntOp.cmpi .sge (magW b) 31744#32 = BitVec.ofBool (decide (31744 ≤ M)) := by
    unfold IntOp.cmpi; congr 1
    rw [show (31744#32).sle (magW b) = decide ((31744#32).toInt ≤ (magW b).toInt) from rfl, hmi]; simp
  have c3 : IntOp.cmpi .ne (signW b) 0#32 = BitVec.ofBool b.msb := by
    have : signW b = if b.msb then 2147483648#32 else 0#32 :=
      BitVec.eq_of_toNat_eq (by rw [signW_toNat]; cases b.msb <;> rfl)
    unfold IntOp.cmpi; rw [this]; cases b.msb <;> rfl
  have k24 : Ideal.ofBits .f32 0x33800000#32 = (((2 : ℝ) ^ (-24 : Int) : ℝ) : EReal) := by
    simp [Ideal.ofBits, Ideal.ieee, -EReal.coe_mul]; norm_num
  have k0 : Ideal.ofBits .f32 0x00000000#32 = ((0 : ℝ) : EReal) := by simp [Ideal.ofBits, Ideal.ieee]
  rw [rhs]
  unfold half
  simp only [c1, c2, c3, hmi, k24, k0]
  by_cases h1 : M < 1024
  · have e0 : M / 2 ^ 10 = 0 := by omega
    have t0 : M % 2 ^ 10 = M := by omega
    simp only [h1, e0, t0, value, Scalar.select, decide_true]
    rw [← EReal.coe_mul, ← EReal.coe_sub]
    cases b.msb <;> simp [-EReal.coe_mul]
  · by_cases h2 : 31744 ≤ M
    · have e31 : M / 2 ^ 10 = 31 := by omega
      have hor : (IntOp.ori (IntOp.shli .vector (magW b) 13#32) 2139095040#32).toNat = 255 * 2 ^ 23 + (M % 2 ^ 10) * 2 ^ 13 := by
        unfold IntOp.ori
        rw [BitVec.toNat_or, hs13, show M * 2 ^ 13 = 2 ^ 23 * 31 + (M % 2 ^ 10) * 2 ^ 13 by omega,
          Nat.two_pow_add_eq_or_of_lt (by omega : (M % 2 ^ 10) * 2 ^ 13 < 2 ^ 23), Nat.or_assoc, Nat.or_comm (M % 2 ^ 10 * 2 ^ 13),
          ← Nat.or_assoc, show (2 ^ 23 * 31 ||| (2139095040#32).toNat) = 2 ^ 23 * 255 by decide,
          ← Nat.two_pow_add_eq_or_of_lt (by omega : (M % 2 ^ 10) * 2 ^ 13 < 2 ^ 23)]
        omega
      have lhs : Ideal.ofBits .f32 (IntOp.ori (IntOp.ori (IntOp.shli .vector (magW b) 13#32) 2139095040#32) (signW b))
          = value 8 23 b.msb 255 ((M % 2 ^ 10) * 2 ^ 13) :=
        ieee_eq 8 23 32 _ b.msb _ _ (by omega) (by omega) (by rw [or_sign _ _ (by omega), hor]; omega)
      rw [lhs, e31]
      simp [h1, h2, value, Scalar.select]
    · have hadd : (IntOp.addi (IntOp.shli .vector (magW b) 13#32) 939524096#32).toNat
          = (M / 2 ^ 10 + 112) * 2 ^ 23 + (M % 2 ^ 10) * 2 ^ 13 := by
        unfold IntOp.addi
        rw [BitVec.toNat_add, hs13, show (939524096#32).toNat = 939524096 by decide]
        omega
      have lhs : Ideal.ofBits .f32 (IntOp.ori (IntOp.addi (IntOp.shli .vector (magW b) 13#32) 939524096#32) (signW b))
          = value 8 23 b.msb (M / 2 ^ 10 + 112) ((M % 2 ^ 10) * 2 ^ 13) :=
        ieee_eq 8 23 32 _ b.msb _ _ (by omega) (by omega) (by rw [or_sign _ _ (by omega), hadd]; omega)
      rw [lhs]
      have n1 : ¬ M / 2 ^ 10 + 112 = 2 ^ 8 - 1 := by omega
      have n2 : ¬ M / 2 ^ 10 + 112 = 0 := by omega
      have n3 : ¬ M / 2 ^ 10 = 2 ^ 5 - 1 := by omega
      have n4 : ¬ M / 2 ^ 10 = 0 := by omega
      have s1 : ∀ x y z : EReal, Scalar.select (BitVec.ofBool (decide (M < 1024))) x (Scalar.select (BitVec.ofBool (decide (31744 ≤ M))) y z) = z := by
        intro x y z; simp [h1, h2, Scalar.select]
      rw [s1]
      simp only [value, n1, n2, n3, n4, if_false]
      refine congrArg ((↑) : ℝ → EReal) ?_
      exact scale_eq _ _ _

end Cert.Half

end
-- ==== Proof.Rows.lean ====
/- What the kernel's payloads hold, element by element, over the extended reals (hand-written, untrusted). -/
module

public import proofs.«01_k».proof.Proof.Pieces
public import proofs.«01_k».proof.Proof.Bits
public import proofs.«01_k».proof.Proof.Half
public import Idealize.ShloMosaic.Lib.Pipeline.Value
public import Idealize.ShloMosaic.Lib.Pipeline.ReadBack
public import Idealize.ShloMosaic.Lib.MatmulPlain
public import Idealize.ShloMosaic.Lib.Bf16PairInverse

@[expose] public section

noncomputable section

namespace Cert.KernelIdeal.Rows

open Cert.KernelIdeal Cert.KernelIdeal.Gen Cert.KernelIdeal.Pieces Idealize.ShloMosaic Idealize.ShloMosaic.ValueIdx
open Cert.Bits Cert.Half

/-! ## The scales -/

/-- The super-block scales times a quarter. -/
theorem d4_apply (x4 : Vec Ideal S32x256 .i16) (i : S32x256.Idx) :
    k0_pay1 (F := Ideal) x4 i = Ideal.ofBits .f16 (x4 i) * Ideal.ofBits .f32 0x3E800000#32 := by
  unfold k0_pay1
  rw [shapeCast_self]
  rw [← half_eq]
  rfl

/-- Two equal vectors interleaved by rows: every row is the row of its pair. -/
theorem pairs_apply {α : Type} (p : S16x1x256.Idx → α) (a : Fin 16) (h : Fin 2) (o : Fin 256) :
    interleaveRows S16x2x256 p p bitcasts_S16x2x256_w16_S16x1x256_w32 (ix3 a h o) = p (ix3 a 0 o) := by
  unfold interleaveRows
  dsimp only
  rw [ite_self]
  congr 1
  funext b
  match b with
  | ⟨0, _⟩ => rfl
  | ⟨1, _⟩ => exact Fin.ext (by show h.val / 2 = 0; omega)
  | ⟨2, _⟩ => rfl

/-- The stored scaled rows: both halves of word row `a` are the super-block scale times sub-block scale `a`. -/
theorem effPay_apply (n : Nat) (hn : n < 32) (d4 : FVec Ideal S32x256 .f32) (sc : Vec Ideal S1x16x256 .i8)
    (a : Fin 16) (h : Fin 2) (o : Fin 256) :
    effPay n (slices_d n hn) d4 sc (ix3 a h o) = (d4 (ix2 ⟨n, hn⟩ o) * (((sc (ix3 0 a o)).toInt : ℝ) : EReal) : EReal) := by
  unfold effPay
  rw [pairs_apply]
  rw [shapeCast_apply _ _ (ix3 a 0 o) (ix2 a o) (by
    rw [Shape.rowMajor_val_two, Shape.rowMajor_val_three]; show a.val * 256 + o.val = (a.val * 1 + 0) * 256 + o.val; omega)]
  show (_ : EReal) * _ = _
  congr 1
  · rw [broadcastTo_apply _ _ (ix2 a o) (ix2 0 o) (by intro b; match b with | ⟨0, _⟩ => rfl | ⟨1, _⟩ => rfl)]
    rw [extractStridedSlice_apply _ _ _ _ (ix2 ⟨n, hn⟩ o) (by
      intro b; match b with
      | ⟨0, _⟩ => rfl
      | ⟨1, _⟩ => show o.val = 0 + o.val; omega)]
  · show (((shapeCast S16x256 sc shapeCasts_S1x16x256_S16x256 (ix2 a o) : BitVec 8).toInt : ℝ) : EReal) = _
    rw [shapeCast_apply _ _ (ix2 a o) (ix3 0 a o) (by
      rw [Shape.rowMajor_val_two, Shape.rowMajor_val_three]; show (0 * 16 + a.val) * 256 + o.val = a.val * 256 + o.val; omega)]

/-! ## The weights -/

/-- A row eight times. -/
theorem spread_apply (v : FVec Ideal S1x256 .bf16) (a : Fin 8) (o : Fin 256) : spread v (ix2 a o) = v (ix2 0 o) := by
  unfold spread
  exact concatenate_replicate_apply (t := S8x256) (s₁ := S1x256) 0 8 v _ rfl (ix2 a o) (ix2 0 o) (by show 0 = a.val % 1; omega)
    (by intro b hb; match b with
      | ⟨0, _⟩ => exact absurd rfl hb
      | ⟨1, _⟩ => rfl)

/-- A pair of equal rows spread over sixteen: each is that row. -/
theorem scaleRows_apply (raw : Vec Ideal S1x2x256 .bf16) (e : EReal) (r : Fin 16) (o : Fin 256)
    (hraw : ∀ h : Fin 2, raw (ix3 0 h o) = e) : scaleRows raw (ix2 r o) = e := by
  have par : ∀ (p : Fin 2) (a : Fin 8), spread (F := Ideal) (shapeCast S1x256 (rowsOfParity p S1x1x256 raw bitcasts_S1x2x256_w16_S1x1x256_w32)
      shapeCasts_S1x1x256_S1x256) (ix2 a o) = e := by
    intro p a
    rw [spread_apply, shapeCast_apply _ _ (ix2 0 o) (ix3 0 0 o) (by
      rw [Shape.rowMajor_val_two, Shape.rowMajor_val_three]; show (0 * 1 + 0) * 256 + o.val = 0 * 256 + o.val; omega)]
    unfold rowsOfParity
    rw [← hraw p]
    congr 1
    funext b
    match b with
    | ⟨0, _⟩ => rfl
    | ⟨1, _⟩ => exact Fin.ext (by show 2 * 0 + p.val = p.val; omega)
    | ⟨2, _⟩ => rfl
  have hj : ∀ (lo hi : FVec Ideal S8x256 .bf16), (∀ a : Fin 8, lo (ix2 a o) = e) → (∀ a : Fin 8, hi (ix2 a o) = e) →
      interleaveRows S16x256 lo hi bitcasts_S16x256_w16_S8x256_w32 (ix2 r o) = e := by
    intro lo hi hlo hhi
    unfold interleaveRows
    dsimp only
    have ej : ∀ x : FVec Ideal S8x256 .bf16, (∀ a : Fin 8, x (ix2 a o) = e) → ∀ j : S8x256.Idx, (j 1).val = o.val → x j = e := by
      intro x hx j hj1
      have : j = ix2 (j 0) o := by
        funext b; match b with
        | ⟨0, _⟩ => rfl
        | ⟨1, _⟩ => exact Fin.ext hj1
      rw [this]; exact hx (j 0)
    split
    · exact ej lo hlo _ rfl
    · exact ej hi hhi _ rfl
  exact hj _ _ (par 0) (par 1)

/-- The code rows: four times the code less 128. -/
theorem codes_apply (f : Nat) (hf : f < 4) (ql qh : Vec Ideal S32x256 .i8) (p : Fin 32) (o : Fin 256) :
    codes (F := Ideal) f ql qh (ix2 p o) = (((4 * (code f (ql (ix2 p o)) (qh (ix2 p o))).toInt - 128 : Int) : ℝ) : EReal) := by
  unfold codes
  show (((bitcast S32x256 8 (joined (F := Ideal) f ql qh) bitcasts_S8x256_w32_S32x256_w8 (ix2 p o) : BitVec 8).toInt : ℝ) : EReal) = _
  rw [joined_toInt f hf ql qh bitcasts_S32x256_w8_S8x256_w32 bitcasts_S8x256_w32_S32x256_w8 (joined (F := Ideal) f ql qh) ?_ p o
    (by have := p.isLt; omega)]
  intro i
  unfold joined
  rw [shapeCast_self, shapeCast_self]
  interval_cases f <;> rfl

/-- The stored weight rows: four times the code less 128, times the scale the pair holds. -/
theorem wPay_apply (j : Nat) (ql qh : Vec Ideal S32x256 .i8) (raw : Vec Ideal S1x2x256 .bf16) (e : EReal) (r : Fin 16)
    (o : Fin 256) (hraw : ∀ h : Fin 2, raw (ix3 0 h o) = e) (p : Fin 32) (hp : p.val = 16 * (j % 2) + r.val) :
    wPay (j / 2 % 4) (j % 2) (slices_w j) ql qh raw (ix2 r o)
      = ((((4 * (code (j / 2 % 4) (ql (ix2 p o)) (qh (ix2 p o))).toInt - 128 : Int) : ℝ) : EReal) * e : EReal) := by
  unfold wPay
  rw [shapeCast_self]
  show (_ : EReal) * _ = _
  rw [scaleRows_apply raw e r o hraw, extractStridedSlice_apply _ _ _ _ (ix2 p o) (by
      intro b; match b with
      | ⟨0, _⟩ => exact hp
      | ⟨1, _⟩ => show o.val = 0 + o.val; omega),
    codes_apply _ (Nat.mod_lt _ (by decide))]

/-! ## The two scratch buffers -/

/-- The scaled scale of sub-block `j` as the scratch of scaled rows holds it. -/
def eff (x3 : Vec Ideal S32x16x256 .i8) (x4 : Vec Ideal S32x256 .i16) (j : Fin 512) (o : Fin 256) : EReal :=
  Ideal.ofBits .f16 (x4 (ix2 ⟨j.val / 16, by omega⟩ o)) * Ideal.ofBits .f32 0x3E800000#32
    * (((x3 (ix3 ⟨j.val / 16, by omega⟩ ⟨j.val % 16, by omega⟩ o)).toInt : ℝ) : EReal)

/-- The weight of row `r` as the scratch of weights holds it. -/
def wgt (x1 : Vec Ideal S4096x256 .i8) (x2 : Vec Ideal S2048x256 .i8) (x3 : Vec Ideal S32x16x256 .i8) (x4 : Vec Ideal S32x256 .i16)
    (r : Fin 8192) (o : Fin 256) : EReal :=
  (((4 * (code (r.val / 32 % 4) (x1 (ix2 ⟨64 * (r.val / 128) + 32 * (r.val / 32 % 2) + r.val % 32, by omega⟩ o))
    (x2 (ix2 ⟨32 * (r.val / 128) + r.val % 32, by omega⟩ o))).toInt - 128 : Int) : ℝ) : EReal)
    * eff x3 x4 ⟨r.val / 16, by omega⟩ o

section Scratch

variable (arg1 : Memref sig .tc .vmem S192x8192 .bf16) (harg1 : arg1.IsWhole)
  (arg2 : Memref sig .tc .vmem S4096x256 .i8) (harg2 : arg2.IsWhole) (arg3 : Memref sig .tc .vmem S2048x256 .i8) (harg3 : arg3.IsWhole)
  (arg4 : Memref sig .tc .vmem S32x16x256 .i8) (harg4 : arg4.IsWhole) (arg5 : Memref sig .tc .vmem S32x256 .i16) (harg5 : arg5.IsWhole)
  (arg7 : Memref sig .tc .vmem S8192x256 .bf16) (arg8 : Memref sig .tc .vmem S512x2x256 .bf16)
  (x0 : Vec Ideal S192x8192 .bf16)
  (x1 : Vec Ideal S4096x256 .i8) (x2 : Vec Ideal S2048x256 .i8) (x3 : Vec Ideal S32x16x256 .i8) (x4 : Vec Ideal S32x256 .i16)

/-- Every store of scaled rows holds a block of them. -/
theorem effPiece_block (n : Nat) (hn : n < 32) :
    ∀ x : (effPiece (F := Ideal) arg4 harg4 arg5 harg5 x3 x4 n hn).1.shape.Idx,
      (effPiece (F := Ideal) arg4 harg4 arg5 harg5 x3 x4 n hn).2 x
        = eff x3 x4 ((effPiece (F := Ideal) arg4 harg4 arg5 harg5 x3 x4 n hn).1.emb x 0)
          ((effPiece (F := Ideal) arg4 harg4 arg5 harg5 x3 x4 n hn).1.emb x 2) := by
  intro (x : S16x2x256.Idx)
  obtain ⟨a, h, o, rfl⟩ : ∃ (a : Fin 16) (h : Fin 2) (o : Fin 256), x = ix3 a h o := ⟨x 0, x 1, x 2, eq_ix3 x⟩
  unfold effPiece
  dsimp only
  rw [effPay_apply n hn, d4_apply, View.readAt_eq_ld, View.readAt_eq_ld, harg5.read_unread, harg4.read_unread]
  unfold eff
  have ha := a.isLt
  refine congrArg₂ (fun x y : EReal => x * y) (congrArg (fun b => Ideal.ofBits .f16 (x4 b) * Ideal.ofBits .f32 0x3E800000#32) ?_)
    (congrArg (fun b => (((x3 b).toInt : ℝ) : EReal)) ?_)
  · funext b
    match b with
    | ⟨0, _⟩ => exact Fin.ext (by show 0 + 1 * n = (16 * n + 1 * a.val) / 16; omega)
    | ⟨1, _⟩ => exact Fin.ext (by show 0 + 1 * o.val = 0 + 1 * o.val; rfl)
  · funext b
    match b with
    | ⟨0, _⟩ => exact Fin.ext (by show n + 1 * 0 = (16 * n + 1 * a.val) / 16; omega)
    | ⟨1, _⟩ => exact Fin.ext (by show 0 + 1 * a.val = (16 * n + 1 * a.val) % 16; omega)
    | ⟨2, _⟩ => exact Fin.ext (by show 0 + 1 * o.val = 0 + 1 * o.val; rfl)

/-- Every one of the stores of scaled rows holds a block of `eff`. -/
theorem effList_blocks : ∀ (n : Nat) (hn : n ≤ 32), ∀ p ∈ effList (F := Ideal) arg4 harg4 arg5 harg5 x3 x4 n hn,
    ∀ x : p.1.shape.Idx, p.2 x = eff x3 x4 (p.1.emb x 0) (p.1.emb x 2)
  | 0, _ => fun p hp => absurd hp List.not_mem_nil
  | n + 1, hn => by
    intro p hp
    rcases List.mem_cons.mp hp with rfl | hp
    · exact effPiece_block arg4 harg4 arg5 harg5 x3 x4 n hn
    · exact effList_blocks n (Nat.le_of_succ_le hn) p hp

/-- Super-block `n`'s store is among the first `k` when `n < k`. -/
theorem effPiece_mem (n : Nat) (hn : n < 32) : ∀ (k : Nat) (hk : k ≤ 32), n < k →
    effPiece (F := Ideal) arg4 harg4 arg5 harg5 x3 x4 n hn ∈ effList (F := Ideal) arg4 harg4 arg5 harg5 x3 x4 k hk
  | 0, _, h => absurd h (Nat.not_lt_zero n)
  | k + 1, hk, h => by
    rcases Nat.lt_succ_iff_lt_or_eq.mp h with h | rfl
    · exact List.mem_cons_of_mem _ (effPiece_mem n hn k (Nat.le_of_succ_le hk) h)
    · exact List.mem_cons_self

/-- What the scratch of scaled rows holds. -/
theorem eff_canon (j : Fin 512) (h : Fin 2) (o : Fin 256) :
    View.canon (effList (F := Ideal) arg4 harg4 arg5 harg5 x3 x4 32 (Nat.le_refl 32)) (ix3 j h o) = eff x3 x4 j o := by
  have hj := j.isLt
  refine View.canon_apply_of_pieces (Val := Elt Ideal) (S := S512x2x256) (e := .bf16) (fun i => eff x3 x4 (i 0) (i 2)) _
    (effList_blocks arg4 harg4 arg5 harg5 x3 x4 32 (Nat.le_refl 32)) (ix3 j h o)
    ⟨_, effPiece_mem arg4 harg4 arg5 harg5 x3 x4 (j.val / 16) (by omega) 32 (Nat.le_refl 32) (by omega), ?_⟩
  show _ ∈ (Rect.unit (s := S512x2x256) ![16 * (j.val / 16), 0, 0] S16x2x256.size (inb_eff _ (by omega))).set
  rw [Rect.mem_set_unit]
  intro b
  match b with
  | ⟨0, _⟩ => show 16 * (j.val / 16) ≤ j.val ∧ j.val < 16 * (j.val / 16) + 16; omega
  | ⟨1, _⟩ => show 0 ≤ h.val ∧ h.val < 0 + 2; omega
  | ⟨2, _⟩ => show 0 ≤ o.val ∧ o.val < 0 + 256; omega

/-- Every store of weights holds a block of them. -/
theorem wPiece_block (j : Nat) (hj : j < 512) :
    ∀ x : (wPiece (F := Ideal) arg2 harg2 arg3 harg3 arg4 harg4 arg5 harg5 arg8 x1 x2 x3 x4 j hj).1.shape.Idx,
      (wPiece (F := Ideal) arg2 harg2 arg3 harg3 arg4 harg4 arg5 harg5 arg8 x1 x2 x3 x4 j hj).2 x
        = wgt x1 x2 x3 x4 ((wPiece (F := Ideal) arg2 harg2 arg3 harg3 arg4 harg4 arg5 harg5 arg8 x1 x2 x3 x4 j hj).1.emb x 0)
          ((wPiece (F := Ideal) arg2 harg2 arg3 harg3 arg4 harg4 arg5 harg5 arg8 x1 x2 x3 x4 j hj).1.emb x 1) := by
  intro (x : S16x256.Idx)
  obtain ⟨r, o, rfl⟩ : ∃ (r : Fin 16) (o : Fin 256), x = ix2 r o := ⟨x 0, x 1, eq_ix2 x⟩
  have hr := r.isLt
  unfold wPiece
  dsimp only
  rw [View.readAt_eq_ld, View.readAt_eq_ld, harg2.read_unread, harg3.read_unread,
    wPay_apply j _ _ _ (eff x3 x4 ⟨j, hj⟩ o) r o ?_ ⟨16 * (j % 2) + r.val, by omega⟩ rfl]
  · unfold wgt
    have e0 : ((Rect.unit (s := S8192x256) ![16 * j, 0] S16x256.size (inb_w j hj)).emb (ix2 r o) 0).val = 16 * j + 1 * r.val := rfl
    have e1 : (Rect.unit (s := S8192x256) ![16 * j, 0] S16x256.size (inb_w j hj)).emb (ix2 r o) 1 = o :=
      Fin.ext (by show 0 + 1 * o.val = o.val; omega)
    have ef : ((Rect.unit (s := S8192x256) ![16 * j, 0] S16x256.size (inb_w j hj)).emb (ix2 r o) 0).val / 32 % 4 = j / 2 % 4 := by
      rw [e0]; omega
    rw [ef, e1]
    refine congrArg₂ (fun x y : EReal => x * y) (congrArg₂ (fun a b => (((4 * (code (j / 2 % 4) (x1 a) (x2 b)).toInt - 128 : Int) : ℝ) : EReal)) ?_ ?_) ?_
    · funext b
      match b with
      | ⟨0, _⟩ => exact Fin.ext (by
          show 64 * (j / 8) + 32 * (j / 2 % 2) + 1 * (16 * (j % 2) + r.val)
            = 64 * ((16 * j + 1 * r.val) / 128) + 32 * ((16 * j + 1 * r.val) / 32 % 2) + (16 * j + 1 * r.val) % 32
          omega)
      | ⟨1, _⟩ => exact Fin.ext (by show 0 + 1 * o.val = o.val; omega)
    · funext b
      match b with
      | ⟨0, _⟩ => exact Fin.ext (by
          show 32 * (j / 8) + 1 * (16 * (j % 2) + r.val) = 32 * ((16 * j + 1 * r.val) / 128) + (16 * j + 1 * r.val) % 32
          omega)
      | ⟨1, _⟩ => exact Fin.ext (by show 0 + 1 * o.val = o.val; omega)
    · refine congrArg (fun k => eff x3 x4 k o) (Fin.ext ?_)
      show j = (16 * j + 1 * r.val) / 16
      omega
  · intro h
    rw [View.readCov_eq_canon']
    refine Eq.trans ?_ (eff_canon arg4 harg4 arg5 harg5 x3 x4 ⟨j, hj⟩ h o)
    refine congrArg _ ?_
    funext b
    match b with
    | ⟨0, _⟩ => exact Fin.ext (by show j + 1 * 0 = j; omega)
    | ⟨1, _⟩ => exact Fin.ext (by show 0 + 1 * h.val = h.val; omega)
    | ⟨2, _⟩ => exact Fin.ext (by show 0 + 1 * o.val = o.val; omega)

/-- Every one of the stores of weights holds a block of `wgt`. -/
theorem wList_blocks : ∀ (n : Nat) (hn : n ≤ 512),
    ∀ p ∈ wList (F := Ideal) arg2 harg2 arg3 harg3 arg4 harg4 arg5 harg5 arg8 x1 x2 x3 x4 n hn,
    ∀ x : p.1.shape.Idx, p.2 x = wgt x1 x2 x3 x4 (p.1.emb x 0) (p.1.emb x 1)
  | 0, _ => fun p hp => absurd hp List.not_mem_nil
  | n + 1, hn => by
    intro p hp
    rcases List.mem_cons.mp hp with rfl | hp
    · exact wPiece_block arg2 harg2 arg3 harg3 arg4 harg4 arg5 harg5 arg8 x1 x2 x3 x4 n hn
    · exact wList_blocks n (Nat.le_of_succ_le hn) p hp

/-- Sub-block `n`'s store is among the first `k` when `n < k`. -/
theorem wPiece_mem (n : Nat) (hn : n < 512) : ∀ (k : Nat) (hk : k ≤ 512), n < k →
    wPiece (F := Ideal) arg2 harg2 arg3 harg3 arg4 harg4 arg5 harg5 arg8 x1 x2 x3 x4 n hn
      ∈ wList (F := Ideal) arg2 harg2 arg3 harg3 arg4 harg4 arg5 harg5 arg8 x1 x2 x3 x4 k hk
  | 0, _, h => absurd h (Nat.not_lt_zero n)
  | k + 1, hk, h => by
    rcases Nat.lt_succ_iff_lt_or_eq.mp h with h | rfl
    · exact List.mem_cons_of_mem _ (wPiece_mem n hn k (Nat.le_of_succ_le hk) h)
    · exact List.mem_cons_self

/-- What the scratch of weights holds. -/
theorem w_canon (r : Fin 8192) (o : Fin 256) :
    View.canon (wList (F := Ideal) arg2 harg2 arg3 harg3 arg4 harg4 arg5 harg5 arg8 x1 x2 x3 x4 512 (Nat.le_refl 512)) (ix2 r o)
      = wgt x1 x2 x3 x4 r o := by
  have hr := r.isLt
  refine View.canon_apply_of_pieces (Val := Elt Ideal) (S := S8192x256) (e := .bf16) (fun i => wgt x1 x2 x3 x4 (i 0) (i 1)) _
    (wList_blocks arg2 harg2 arg3 harg3 arg4 harg4 arg5 harg5 arg8 x1 x2 x3 x4 512 (Nat.le_refl 512)) (ix2 r o)
    ⟨_, wPiece_mem arg2 harg2 arg3 harg3 arg4 harg4 arg5 harg5 arg8 x1 x2 x3 x4 (r.val / 16) (by omega) 512 (Nat.le_refl 512)
      (by omega), ?_⟩
  show _ ∈ (Rect.unit (s := S8192x256) ![16 * (r.val / 16), 0] S16x256.size (inb_w _ (by omega))).set
  rw [Rect.mem_set_unit]
  intro b
  match b with
  | ⟨0, _⟩ => show 16 * (r.val / 16) ≤ r.val ∧ r.val < 16 * (r.val / 16) + 16; omega
  | ⟨1, _⟩ => show 0 ≤ o.val ∧ o.val < 0 + 256; omega

/-! ## The result's block -/

/-- What the body leaves in the result's block: the activations times the weights. -/
theorem out_apply (c : Dev nD) (i : grid0.Coords) (arg6 : Memref sig .tc .vmem S192x256 .bf16) (harg6 : arg6.IsWhole)
    (harg7 : arg7.IsWhole) (harg8 : arg8.IsWhole) (a : Fin 192) (o : Fin 256) :
    out0_A_5 c i arg1 harg1 arg2 harg2 arg3 harg3 arg4 harg4 arg5 harg5 arg6 harg6 arg7 harg7 arg8 harg8 x0 x1 x2 x3 x4 (ix2 a o)
      = (∑ k : Fin 8192, x0 (ix2 a k) * wgt x1 x2 x3 x4 k o : EReal) := by
  unfold out0_A_5
  rw [out_eq, View.read_writes_junk_eq_canon, View.canon_unit_zero (by funext b; match b with | ⟨0, _⟩ => rfl | ⟨1, _⟩ => rfl)]
  unfold k0_pay1122
  rw [View.readAt_eq_ld, harg1.read_unread, shapeCast_self, View.readCov_eq_canon']
  show FloatOps.matmul (F := Ideal) (φ₁ := .bf16) (φ₂ := .bf16) (DotDims.plain 192 8192 256) none _ _ _ (ix2 a o) = _
  rw [Ideal.matmul_plain_apply]
  have z : (constant (F := Ideal) S192x256 .f32 0x00000000#32 (ix2 a o) : EReal) = 0 := by
    show Ideal.ofBits .f32 0x00000000#32 = 0
    simp [Ideal.ofBits, Ideal.ieee]
  refine Eq.trans (congrArg (fun y : EReal => y + _) z) ?_
  rw [zero_add]
  refine Finset.sum_congr rfl fun k _ => ?_
  refine congrArg₂ (fun x y : EReal => x * y) ?_ ?_
  · refine congrArg x0 ?_
    funext b
    match b with
    | ⟨0, _⟩ => exact Fin.ext (by show 0 + 1 * a.val = a.val; omega)
    | ⟨1, _⟩ => exact Fin.ext (by show 0 + 1 * k.val = k.val; omega)
  · refine Eq.trans (congrArg _ ?_) (w_canon arg2 harg2 arg3 harg3 arg4 harg4 arg5 harg5 arg8 x1 x2 x3 x4 k o)
    funext b
    match b with
    | ⟨0, _⟩ => exact Fin.ext (by show 0 + 1 * k.val = k.val; omega)
    | ⟨1, _⟩ => exact Fin.ext (by show 0 + 1 * o.val = o.val; omega)

end Scratch

end Cert.KernelIdeal.Rows

end
-- ==== Proof.Ref.lean ====
/- What the reference's result holds, element by element, over the extended reals (hand-written, untrusted): per field a
   product over three contracted axes, the four fields added up. -/
module

public import proofs.«01_k».proof.Proof.Gen.ReferenceIdeal.Value
public import proofs.«01_k».proof.Proof.Bits
public import Idealize.ShloMosaic.Lib.Pipeline.Value
public import Idealize.ShloMosaic.Lib.ValueIdxRank6
public import Idealize.ShloMosaic.PureOps.Ideal.Laws

@[expose] public section

noncomputable section

namespace Cert.ReferenceIdeal.Ref

open Cert.ReferenceIdeal Cert.ReferenceIdeal.Gen Idealize.ShloMosaic Idealize.ShloMosaic.ValueIdx Cert.Bits

/-! ## Three contracted axes -/

section Three

variable {sl sr so : Shape} (d : DotDims sl sr so)

/-- A contraction over three axes has rank three. -/
theorem rank_contr₃ {a b c : Fin sl.rank} (hc : d.lhsContracting = [a, b, c]) : d.contr.rank = 3 := by
  rw [d.rank_contr, hc]; rfl

/-- The contraction's extents are those of its three axes. -/
theorem size_contr₃ {a b c : Fin sl.rank} (hc : d.lhsContracting = [a, b, c]) {K₁ K₂ K₃ : Nat} (hK₁ : sl.size a = K₁)
    (hK₂ : sl.size b = K₂) (hK₃ : sl.size c = K₃) (p : Fin d.contr.rank) :
    (if p.val = 0 then K₁ else if p.val = 1 then K₂ else K₃) = d.contr.size p := by
  subst hK₁ hK₂ hK₃
  have : ∀ (l : List (Fin sl.rank)) (_ : l = [a, b, c]) (p : Fin (l.map sl.size).length),
      (if p.val = 0 then sl.size a else if p.val = 1 then sl.size b else sl.size c) = (l.map sl.size)[p] := by
    rintro _ rfl ⟨p, hp⟩
    simp only [List.map_cons, List.map_nil, List.length_cons, List.length_nil] at hp
    interval_cases p <;> rfl
  exact this _ hc p

/-- The contraction index of a three-axis contraction, from its coordinates. -/
def contrIdx₃ {a b c : Fin sl.rank} (hc : d.lhsContracting = [a, b, c]) {K₁ K₂ K₃ : Nat} (hK₁ : sl.size a = K₁)
    (hK₂ : sl.size b = K₂) (hK₃ : sl.size c = K₃) (k₁ : Fin K₁) (k₂ : Fin K₂) (k₃ : Fin K₃) : d.contr.Idx :=
  fun p => if h : p.val = 0 then k₁.cast (by rw [← size_contr₃ d hc hK₁ hK₂ hK₃ p, if_pos h])
    else if h' : p.val = 1 then k₂.cast (by rw [← size_contr₃ d hc hK₁ hK₂ hK₃ p, if_neg h, if_pos h'])
    else k₃.cast (by rw [← size_contr₃ d hc hK₁ hK₂ hK₃ p, if_neg h, if_neg h'])

/-- Three-axis contraction indices are the triples of coordinates on those axes. -/
def contrEquiv₃ {a b c : Fin sl.rank} (hc : d.lhsContracting = [a, b, c]) {K₁ K₂ K₃ : Nat} (hK₁ : sl.size a = K₁)
    (hK₂ : sl.size b = K₂) (hK₃ : sl.size c = K₃) : Fin K₁ × Fin K₂ × Fin K₃ ≃ d.contr.Idx where
  toFun k := contrIdx₃ d hc hK₁ hK₂ hK₃ k.1 k.2.1 k.2.2
  invFun kk :=
    ((kk ⟨0, by rw [rank_contr₃ d hc]; decide⟩).cast (size_contr₃ d hc hK₁ hK₂ hK₃ _).symm,
     (kk ⟨1, by rw [rank_contr₃ d hc]; decide⟩).cast (size_contr₃ d hc hK₁ hK₂ hK₃ _).symm,
     (kk ⟨2, by rw [rank_contr₃ d hc]; decide⟩).cast (size_contr₃ d hc hK₁ hK₂ hK₃ _).symm)
  left_inv _ := rfl
  right_inv kk := by
    funext p
    have : p = ⟨0, by rw [rank_contr₃ d hc]; decide⟩ ∨ p = ⟨1, by rw [rank_contr₃ d hc]; decide⟩
        ∨ p = ⟨2, by rw [rank_contr₃ d hc]; decide⟩ := by
      have := rank_contr₃ d hc
      rcases p with ⟨p, hp⟩
      simp only [Fin.mk.injEq]; omega
    rcases this with rfl | rfl | rfl <;> rfl

/-- A sum over a three-axis contraction's indices is the triple sum over the axes' coordinates. -/
theorem sum_contr₃ {M : Type*} [AddCommMonoid M] {a b c : Fin sl.rank} (hc : d.lhsContracting = [a, b, c]) {K₁ K₂ K₃ : Nat}
    (hK₁ : sl.size a = K₁) (hK₂ : sl.size b = K₂) (hK₃ : sl.size c = K₃) (f : d.contr.Idx → M) :
    ∑ kk : d.contr.Idx, f kk = ∑ k₁ : Fin K₁, ∑ k₂ : Fin K₂, ∑ k₃ : Fin K₃, f (contrIdx₃ d hc hK₁ hK₂ hK₃ k₁ k₂ k₃) := by
  rw [← Fintype.sum_equiv (contrEquiv₃ d hc hK₁ hK₂ hK₃) (fun k => f (contrIdx₃ d hc hK₁ hK₂ hK₃ k.1 k.2.1 k.2.2)) f fun _ => rfl]
  simp only [Fintype.sum_prod_type]

end Three

/-! ## One field -/

variable {F : FTy → Type} [FloatOps F]

/-- The weights of field `f`: the codes less 32 times the field's scales. -/
def fieldW (f : Nat) (hs : S8192x32x2x4x2.Slices ![0, 0, 0, f, 0] S8192x32x2x1x2) (v14 : FVec F S8192x32x2x4x2 .bf16)
    (cw : IVec S8192x32x2x32 32) : FVec F S8192x32x2x32 .bf16 :=
  shapeCast S8192x32x2x32 (mulf
    (shapeCast S8192x32x2x2x16 (subf (sitofp .bf16 cw) (broadcast S8192x32x2x32 (Scalar.ofBits .bf16 0x4200#16)))
      shapeCasts_S8192x32x2x32_S8192x32x2x2x16)
    (broadcastTo S8192x32x2x2x16 (shapeCast S8192x32x2x2x1 (shapeCast S8192x32x2x2
        (extractStridedSlice S8192x32x2x1x2 ![0, 0, 0, f, 0] v14 hs)
        shapeCasts_S8192x32x2x1x2_S8192x32x2x2) shapeCasts_S8192x32x2x2_S8192x32x2x2x1)
      broadcasts_S8192x32x2x2x1_S8192x32x2x2x16)) shapeCasts_S8192x32x2x2x16_S8192x32x2x32

/-- The activations of field `f`. -/
def fieldX (f : Nat) (hs : S192x1x32x2x4x32.Slices ![0, 0, 0, 0, f, 0] S192x1x32x2x1x32) (v15 : FVec F S192x1x32x2x4x32 .bf16) :
    FVec F S192x1x32x2x32 .bf16 :=
  shapeCast S192x1x32x2x32 (extractStridedSlice S192x1x32x2x1x32 ![0, 0, 0, 0, f, 0] v15 hs)
    shapeCasts_S192x1x32x2x1x32_S192x1x32x2x32

/-- The product of one field. -/
def field (x : FVec F S192x1x32x2x32 .bf16) (w : FVec F S8192x32x2x32 .bf16) : FVec F S192x1x8192 .f32 :=
  matmul dot_S192x1x32x2x32_S8192x32x2x32_S192x1x8192_342_231_01_0_n_n none x w (constant S192x1x8192 .f32 0x00000000#32)

/-- A weight: the code less 32 times the scale of its sub-block. -/
theorem fieldW_apply (f : Fin 4) (hs : S8192x32x2x4x2.Slices ![0, 0, 0, f.val, 0] S8192x32x2x1x2)
    (v14 : FVec Ideal S8192x32x2x4x2 .bf16) (cw : IVec S8192x32x2x32 32) (o : Fin 8192) (n : Fin 32) (h : Fin 2) (l : Fin 32)
    (g : Fin 2) (hg : g.val = l.val / 16) :
    fieldW f.val hs v14 cw (ix4 o n h l)
      = (((((cw (ix4 o n h l)).toInt : ℝ) : EReal) - Ideal.ofBits .bf16 0x4200#16) * v14 (ix5 o n h f g) : EReal) := by
  have hl := l.isLt
  unfold fieldW
  rw [shapeCast_apply _ _ (ix4 o n h l) (ix5 o n h g (⟨l.val % 16, by omega⟩ : Fin 16)) (by
    rw [Shape.rowMajor_val_four, Shape.rowMajor_val_five]
    show (((o.val * 32 + n.val) * 2 + h.val) * 2 + g.val) * 16 + l.val % 16 = ((o.val * 32 + n.val) * 2 + h.val) * 32 + l.val
    omega)]
  refine congrArg₂ (fun x y : EReal => x * y) ?_ ?_
  · rw [shapeCast_apply _ _ (ix5 o n h g (⟨l.val % 16, by omega⟩ : Fin 16)) (ix4 o n h l) (by
      rw [Shape.rowMajor_val_four, Shape.rowMajor_val_five]
      show ((o.val * 32 + n.val) * 2 + h.val) * 32 + l.val = (((o.val * 32 + n.val) * 2 + h.val) * 2 + g.val) * 16 + l.val % 16
      omega)]
    rfl
  · rw [broadcastTo_apply _ _ (ix5 o n h g (⟨l.val % 16, by omega⟩ : Fin 16)) (ix5 o n h g 0) (by
        intro b; match b with
        | ⟨0, _⟩ => rfl | ⟨1, _⟩ => rfl | ⟨2, _⟩ => rfl | ⟨3, _⟩ => rfl | ⟨4, _⟩ => rfl),
      shapeCast_apply _ _ (ix5 o n h g 0) (ix4 o n h g) (by
        rw [Shape.rowMajor_val_four, Shape.rowMajor_val_five]
        show ((o.val * 32 + n.val) * 2 + h.val) * 2 + g.val = (((o.val * 32 + n.val) * 2 + h.val) * 2 + g.val) * 1 + 0
        omega),
      shapeCast_apply _ _ (ix4 o n h g) (ix5 o n h 0 g) (by
        rw [Shape.rowMajor_val_four, Shape.rowMajor_val_five]
        show (((o.val * 32 + n.val) * 2 + h.val) * 1 + 0) * 2 + g.val = ((o.val * 32 + n.val) * 2 + h.val) * 2 + g.val
        omega),
      extractStridedSlice_apply _ _ _ _ (ix5 o n h f g) (by
        intro b; match b with
        | ⟨0, _⟩ => show o.val = 0 + o.val; omega
        | ⟨1, _⟩ => show n.val = 0 + n.val; omega
        | ⟨2, _⟩ => show h.val = 0 + h.val; omega
        | ⟨3, _⟩ => show f.val = f.val + 0; omega
        | ⟨4, _⟩ => show g.val = 0 + g.val; omega)]

/-- An activation: field `f` of a sub-block's 128. -/
theorem fieldX_apply (f : Fin 4) (hs : S192x1x32x2x4x32.Slices ![0, 0, 0, 0, f.val, 0] S192x1x32x2x1x32)
    (x : Vec Ideal S192x1x8192 .bf16) (a : Fin 192) (n : Fin 32) (h : Fin 2) (l : Fin 32) (k : Fin 8192)
    (hk : k.val = 256 * n.val + 128 * h.val + 32 * f.val + l.val) :
    fieldX f.val hs (k0_pay5 x) (ix5 a 0 n h l) = x (ix3 a 0 k) := by
  unfold fieldX k0_pay5
  rw [shapeCast_apply _ _ (ix5 a 0 n h l) (ix6 a (0 : Fin 1) n h (0 : Fin 1) l) (by
      rw [Shape.rowMajor_val_six, Shape.rowMajor_val_five]
      show ((((a.val * 1 + 0) * 32 + n.val) * 2 + h.val) * 1 + 0) * 32 + l.val
        = (((a.val * 1 + 0) * 32 + n.val) * 2 + h.val) * 32 + l.val
      omega),
    extractStridedSlice_apply _ _ _ _ (ix6 a (0 : Fin 1) n h f l) (by
      intro b; match b with
      | ⟨0, _⟩ => show a.val = 0 + a.val; omega
      | ⟨1, _⟩ => rfl
      | ⟨2, _⟩ => show n.val = 0 + n.val; omega
      | ⟨3, _⟩ => show h.val = 0 + h.val; omega
      | ⟨4, _⟩ => show f.val = f.val + 0; omega
      | ⟨5, _⟩ => show l.val = 0 + l.val; omega),
    shapeCast_apply _ _ (ix6 a (0 : Fin 1) n h f l) (ix3 a 0 k) (by
      rw [Shape.rowMajor_val_six, Shape.rowMajor_val_three]
      show (a.val * 1 + 0) * 8192 + k.val = ((((a.val * 1 + 0) * 32 + n.val) * 2 + h.val) * 4 + f.val) * 32 + l.val
      omega)]

/-- The product of one field as a sum over a half, a row and a super-block. -/
theorem field_apply (x : FVec Ideal S192x1x32x2x32 .bf16) (w : FVec Ideal S8192x32x2x32 .bf16) (a : Fin 192) (o : Fin 8192) :
    field x w (ix3 a 0 o)
      = (∑ h : Fin 2, ∑ l : Fin 32, ∑ n : Fin 32, x (ix5 a 0 n h l) * w (ix4 o n h l) : EReal) := by
  have z : (constant (F := Ideal) S192x1x8192 .f32 0x00000000#32 (ix3 a 0 o) : EReal) = 0 := by
    show Ideal.ofBits .f32 0x00000000#32 = 0
    simp [Ideal.ofBits, Ideal.ieee]
  unfold field
  show (constant (F := Ideal) S192x1x8192 .f32 0x00000000#32 (ix3 a 0 o) : EReal) + _ = _
  rw [z, zero_add,
    sum_contr₃ dot_S192x1x32x2x32_S8192x32x2x32_S192x1x8192_342_231_01_0_n_n (a := 3) (b := 4) (c := 2) rfl
      (K₁ := 2) (K₂ := 32) (K₃ := 32) rfl rfl rfl]
  refine Finset.sum_congr rfl fun h _ => Finset.sum_congr rfl fun l _ => Finset.sum_congr rfl fun n _ => ?_
  refine congrArg₂ (fun x y : EReal => x * y) (congrArg x ?_) (congrArg w ?_)
  · funext b; apply Fin.ext
    match b with
    | ⟨0, _⟩ => rfl | ⟨1, _⟩ => rfl | ⟨2, _⟩ => rfl | ⟨3, _⟩ => rfl | ⟨4, _⟩ => rfl
  · funext b; apply Fin.ext
    match b with
    | ⟨0, _⟩ => rfl | ⟨1, _⟩ => rfl | ⟨2, _⟩ => rfl | ⟨3, _⟩ => rfl

/-! ## The loaded words -/

/-- The low-nibble bytes of a half's first 32 places, widened. -/
theorem lo_apply (a1 : Vec Ideal S8192x32x2x64 .i8) (o : Fin 8192) (n : Fin 32) (h : Fin 2) (l : Fin 32) :
    k0_pay7 a1 (ix4 o n h l) = (a1 (ix4 o n h ⟨l.val, by omega⟩)).setWidth 32 := by
  unfold k0_pay7
  refine (extractStridedSlice_apply _ _ _ _ (ix4 o n h (⟨l.val, by omega⟩ : Fin 64)) ?_).trans rfl
  intro b; match b with
  | ⟨0, _⟩ => show o.val = 0 + o.val; omega
  | ⟨1, _⟩ => show n.val = 0 + n.val; omega
  | ⟨2, _⟩ => show h.val = 0 + h.val; omega
  | ⟨3, _⟩ => show l.val = 0 + l.val; omega

/-- The low-nibble bytes of a half's last 32 places, widened. -/
theorem hi_apply (a1 : Vec Ideal S8192x32x2x64 .i8) (o : Fin 8192) (n : Fin 32) (h : Fin 2) (l : Fin 32) :
    k0_pay8 a1 (ix4 o n h l) = (a1 (ix4 o n h ⟨32 + l.val, by omega⟩)).setWidth 32 := by
  unfold k0_pay8
  refine (extractStridedSlice_apply _ _ _ _ (ix4 o n h (⟨32 + l.val, by omega⟩ : Fin 64)) ?_).trans rfl
  intro b; match b with
  | ⟨0, _⟩ => show o.val = 0 + o.val; omega
  | ⟨1, _⟩ => show n.val = 0 + n.val; omega
  | ⟨2, _⟩ => show h.val = 0 + h.val; omega
  | ⟨3, _⟩ => rfl

/-- The scales: the half-precision value times the integer. -/
theorem scales_apply (a3 : Vec Ideal S8192x32x16 .i8) (a4 : Vec Ideal S8192x32 .i16) (o : Fin 8192) (n : Fin 32) (h : Fin 2)
    (f : Fin 4) (g : Fin 2) (s : Fin 16) (hs : s.val = 8 * h.val + 2 * f.val + g.val) :
    k0_pay4 a3 a4 (ix5 o n h f g)
      = (Ideal.ofBits .f16 (a4 (ix2 o n)) * (((a3 (ix3 o n s)).toInt : ℝ) : EReal) : EReal) := by
  unfold k0_pay4
  refine (shapeCast_apply _ _ (ix5 o n h f g) (ix3 o n s) (by
    rw [Shape.rowMajor_val_three, Shape.rowMajor_val_five]
    show (o.val * 32 + n.val) * 16 + s.val = (((o.val * 32 + n.val) * 2 + h.val) * 4 + f.val) * 2 + g.val
    omega)).trans ?_
  refine congrArg₂ (fun x y : EReal => x * y) ?_ rfl
  refine (broadcastTo_apply _ _ (ix3 o n s) (ix3 o n 0) (by
        intro b; match b with
        | ⟨0, _⟩ => rfl | ⟨1, _⟩ => rfl | ⟨2, _⟩ => rfl)).trans ?_
  exact (shapeCast_apply _ _ (ix3 o n 0) (ix2 o n) (by
        rw [Shape.rowMajor_val_two, Shape.rowMajor_val_three]
        show o.val * 32 + n.val = (o.val * 32 + n.val) * 1 + 0
        omega)).trans rfl

/-- The place of a low-nibble byte within its half: the odd fields take the last 32. -/
def pos (f : Fin 4) (l : Fin 32) : Fin 64 := ⟨32 * (f.val % 2) + l.val, by omega⟩

/-- The joined codes of field `f`. -/
def codes (f : Fin 4) (a1 : Vec F S8192x32x2x64 .i8) (a2 : Vec F S8192x32x2x32 .i8) : IVec S8192x32x2x32 32 :=
  match f with
  | 0 => k0_pay9 a1 a2
  | 1 => ori (k0_pay10 a1) (shli (k0_pay11 a2) k0_pay12)
  | 2 => k0_pay13 (k0_pay3 a2) (k0_pay7 a1)
  | 3 => k0_pay14 (k0_pay3 a2) (k0_pay8 a1)

/-- A joined code is `Bits.code` of its two bytes. -/
theorem codes_apply (f : Fin 4) (a1 : Vec Ideal S8192x32x2x64 .i8) (a2 : Vec Ideal S8192x32x2x32 .i8)
    (o : Fin 8192) (n : Fin 32) (h : Fin 2) (l : Fin 32) :
    codes f a1 a2 (ix4 o n h l) = code f.val (a1 (ix4 o n h (pos f l))) (a2 (ix4 o n h l)) := by
  have e := lo_apply a1 o n h l
  have e' := hi_apply a1 o n h l
  match f with
  | 0 =>
    have p : pos 0 l = ⟨l.val, by omega⟩ := Fin.ext (by show 32 * 0 + l.val = l.val; omega)
    rw [p]
    exact congrArg (fun w => IntOp.ori (IntOp.andi w 15#32)
      (IntOp.shli .vector (IntOp.andi (IntOp.shrsi .vector ((a2 (ix4 o n h l)).setWidth 32) 0#32) 3#32) 4#32)) e
  | 1 =>
    exact congrArg (fun w => IntOp.ori (IntOp.andi w 15#32)
      (IntOp.shli .vector (IntOp.andi (IntOp.shrsi .vector ((a2 (ix4 o n h l)).setWidth 32) 2#32) 3#32) 4#32)) e'
  | 2 =>
    have p : pos 2 l = ⟨l.val, by omega⟩ := Fin.ext (by show 32 * 0 + l.val = l.val; omega)
    rw [p]
    exact congrArg (fun w => IntOp.ori (IntOp.shrsi .vector w 4#32)
      (IntOp.shli .vector (IntOp.andi (IntOp.shrsi .vector ((a2 (ix4 o n h l)).setWidth 32) 4#32) 3#32) 4#32)) e
  | 3 =>
    exact congrArg (fun w => IntOp.ori (IntOp.shrsi .vector w 4#32)
      (IntOp.shli .vector (IntOp.andi (IntOp.shrsi .vector ((a2 (ix4 o n h l)).setWidth 32) 6#32) 3#32) 4#32)) e'

/-! ## The whole result -/

/-- Field `f`'s product, from the arguments. -/
def part (f : Nat) (hs : S8192x32x2x4x2.Slices ![0, 0, 0, f, 0] S8192x32x2x1x2)
    (hx : S192x1x32x2x4x32.Slices ![0, 0, 0, 0, f, 0] S192x1x32x2x1x32) (a0 : Vec F S192x1x8192 .bf16)
    (cw : IVec S8192x32x2x32 32) (a3 : Vec F S8192x32x16 .i8) (a4 : Vec F S8192x32 .i16) : FVec F S192x1x8192 .f32 :=
  field (fieldX f hx (k0_pay5 a0)) (fieldW f hs (k0_pay4 a3 a4) cw)

/-- The scales are read from whole blocks. -/
theorem pay17_eq (a0 : Vec F S192x1x8192 .bf16) (a1 : Vec F S8192x32x2x64 .i8) (a2 : Vec F S8192x32x2x32 .i8)
    (a3 : Vec F S8192x32x16 .i8) (a4 : Vec F S8192x32 .i16) : k0_pay17 a0 a1 a2 a3 a4 = k0_pay4 a3 a4 := by
  unfold k0_pay17
  rw [View.ld_unit_zero (S := S8192x32x16) Value.hz3 _ a3, View.ld_unit_zero (S := S8192x32) Value.hz4 _ a4]

/-- The activations are read from a whole block. -/
theorem pay18_eq (a0 : Vec F S192x1x8192 .bf16) (a1 : Vec F S8192x32x2x64 .i8) (a2 : Vec F S8192x32x2x32 .i8)
    (a3 : Vec F S8192x32x16 .i8) (a4 : Vec F S8192x32 .i16) : k0_pay18 a0 a1 a2 a3 a4 = k0_pay5 a0 := by
  unfold k0_pay18
  rw [View.ld_unit_zero (S := S192x1x8192) Value.hz0 _ a0]

/-- The high pairs are read from a whole block. -/
theorem pay16_eq (a0 : Vec F S192x1x8192 .bf16) (a1 : Vec F S8192x32x2x64 .i8) (a2 : Vec F S8192x32x2x32 .i8)
    (a3 : Vec F S8192x32x16 .i8) (a4 : Vec F S8192x32 .i16) : k0_pay16 a0 a1 a2 a3 a4 = k0_pay3 a2 := by
  unfold k0_pay16
  rw [View.ld_unit_zero (S := S8192x32x2x32) Value.hz2 _ a2]

/-- The reference's result is the four fields' products added to zero in turn, narrowed and laid out flat. -/
theorem G5_eq (a0 : Vec F S192x1x8192 .bf16) (a1 : Vec F S8192x32x2x64 .i8) (a2 : Vec F S8192x32x2x32 .i8)
    (a3 : Vec F S8192x32x16 .i8) (a4 : Vec F S8192x32 .i16) :
    Value.G5 a0 a1 a2 a3 a4 = shapeCast S192x8192 (truncf .bf16 (addf (addf (addf (addf k0_pay6
      (part 0 slices_S8192x32x2x4x2_o0_0_0_0_0_S8192x32x2x1x2 slices_S192x1x32x2x4x32_o0_0_0_0_0_0_S192x1x32x2x1x32 a0 (codes 0 a1 a2) a3 a4))
      (part 1 slices_S8192x32x2x4x2_o0_0_0_1_0_S8192x32x2x1x2 slices_S192x1x32x2x4x32_o0_0_0_0_1_0_S192x1x32x2x1x32 a0 (codes 1 a1 a2) a3 a4))
      (part 2 slices_S8192x32x2x4x2_o0_0_0_2_0_S8192x32x2x1x2 slices_S192x1x32x2x4x32_o0_0_0_0_2_0_S192x1x32x2x1x32 a0 (codes 2 a1 a2) a3 a4))
      (part 3 slices_S8192x32x2x4x2_o0_0_0_3_0_S8192x32x2x1x2 slices_S192x1x32x2x4x32_o0_0_0_0_3_0_S192x1x32x2x1x32 a0 (codes 3 a1 a2) a3 a4))
      bitsLt_bf16_f32) shapeCasts_S192x1x8192_S192x8192 := by
  unfold Value.G5
  rw [pay16_eq, pay17_eq, pay18_eq]
  rfl

/-- The reference's weight of row `k` and column `o`. -/
def refW (a1 : Vec Ideal S8192x32x2x64 .i8) (a2 : Vec Ideal S8192x32x2x32 .i8) (a3 : Vec Ideal S8192x32x16 .i8)
    (a4 : Vec Ideal S8192x32 .i16) (k : Fin 8192) (o : Fin 8192) : EReal :=
  ((((code (k.val / 32 % 4) (a1 (ix4 o (⟨k.val / 256, by omega⟩ : Fin 32) (⟨k.val / 128 % 2, by omega⟩ : Fin 2)
        (⟨32 * (k.val / 32 % 2) + k.val % 32, by omega⟩ : Fin 64)))
      (a2 (ix4 o (⟨k.val / 256, by omega⟩ : Fin 32) (⟨k.val / 128 % 2, by omega⟩ : Fin 2)
        (⟨k.val % 32, by omega⟩ : Fin 32)))).toInt : ℝ) : EReal) - Ideal.ofBits .bf16 0x4200#16)
    * (Ideal.ofBits .f16 (a4 (ix2 o (⟨k.val / 256, by omega⟩ : Fin 32)))
      * (((a3 (ix3 o (⟨k.val / 256, by omega⟩ : Fin 32) (⟨k.val / 16 % 16, by omega⟩ : Fin 16))).toInt : ℝ) : EReal))

/-- The row of a field, half, place and super-block. -/
def row (p : Fin 4 × Fin 2 × Fin 32 × Fin 32) : Fin 8192 :=
  ⟨256 * p.2.2.2.val + 128 * p.2.1.val + 32 * p.1.val + p.2.2.1.val, by omega⟩

/-- Every row is that of one field, half, place and super-block. -/
def rows : Fin 4 × Fin 2 × Fin 32 × Fin 32 ≃ Fin 8192 where
  toFun := row
  invFun k := (⟨k.val / 32 % 4, by omega⟩, ⟨k.val / 128 % 2, by omega⟩, ⟨k.val % 32, by omega⟩, ⟨k.val / 256, by omega⟩)
  left_inv p := by
    obtain ⟨f, h, l, n⟩ := p
    refine Prod.ext (Fin.ext ?_) (Prod.ext (Fin.ext ?_) (Prod.ext (Fin.ext ?_) (Fin.ext ?_)))
    · show (256 * n.val + 128 * h.val + 32 * f.val + l.val) / 32 % 4 = f.val; omega
    · show (256 * n.val + 128 * h.val + 32 * f.val + l.val) / 128 % 2 = h.val; omega
    · show (256 * n.val + 128 * h.val + 32 * f.val + l.val) % 32 = l.val; omega
    · show (256 * n.val + 128 * h.val + 32 * f.val + l.val) / 256 = n.val; omega
  right_inv k := Fin.ext (by
    show 256 * (k.val / 256) + 128 * (k.val / 128 % 2) + 32 * (k.val / 32 % 4) + k.val % 32 = k.val
    omega)

/-- Field `f`'s product as a sum over its rows. -/
theorem part_apply (f : Fin 4) (hs : S8192x32x2x4x2.Slices ![0, 0, 0, f.val, 0] S8192x32x2x1x2)
    (hx : S192x1x32x2x4x32.Slices ![0, 0, 0, 0, f.val, 0] S192x1x32x2x1x32) (a0 : Vec Ideal S192x1x8192 .bf16)
    (a1 : Vec Ideal S8192x32x2x64 .i8) (a2 : Vec Ideal S8192x32x2x32 .i8)
    (a3 : Vec Ideal S8192x32x16 .i8) (a4 : Vec Ideal S8192x32 .i16) (a : Fin 192) (o : Fin 8192) :
    part f.val hs hx a0 (codes f a1 a2) a3 a4 (ix3 a 0 o)
      = (∑ h : Fin 2, ∑ l : Fin 32, ∑ n : Fin 32,
          a0 (ix3 a 0 (row (f, h, l, n))) * refW a1 a2 a3 a4 (row (f, h, l, n)) o : EReal) := by
  refine (field_apply _ _ a o).trans ?_
  refine Finset.sum_congr rfl fun h _ => Finset.sum_congr rfl fun l _ => Finset.sum_congr rfl fun n _ => ?_
  refine congrArg₂ (fun x y : EReal => x * y) (fieldX_apply f hx a0 a n h l _ rfl) ?_
  rw [fieldW_apply f hs _ _ o n h l ⟨l.val / 16, by omega⟩ rfl, codes_apply,
    scales_apply a3 a4 o n h f _ ⟨8 * h.val + 2 * f.val + l.val / 16, by omega⟩ rfl]
  have hr : (row (f, h, l, n)).val = 256 * n.val + 128 * h.val + 32 * f.val + l.val := rfl
  unfold refW pos
  generalize row (f, h, l, n) = k at hr
  have e1 : f.val = k.val / 32 % 4 := by omega
  have e2 : n = ⟨k.val / 256, by omega⟩ := Fin.ext (by show n.val = k.val / 256; omega)
  have e3 : h = ⟨k.val / 128 % 2, by omega⟩ := Fin.ext (by show h.val = k.val / 128 % 2; omega)
  have e4 : l = ⟨k.val % 32, by omega⟩ := Fin.ext (by show l.val = k.val % 32; omega)
  have e5 : (⟨32 * (f.val % 2) + l.val, by omega⟩ : Fin 64) = ⟨32 * (k.val / 32 % 2) + k.val % 32, by omega⟩ :=
    Fin.ext (by show 32 * (f.val % 2) + l.val = 32 * (k.val / 32 % 2) + k.val % 32; omega)
  have e6 : (⟨8 * h.val + 2 * f.val + l.val / 16, by omega⟩ : Fin 16) = ⟨k.val / 16 % 16, by omega⟩ :=
    Fin.ext (by show 8 * h.val + 2 * f.val + l.val / 16 = k.val / 16 % 16; omega)
  rw [e5, e6, e1, ← e2, ← e3, ← e4]

/-- WHAT THE REFERENCE COMPUTES: each result is the sum over all 8192 rows of activation times weight. -/
theorem G5_apply (a0 : Vec Ideal S192x1x8192 .bf16) (a1 : Vec Ideal S8192x32x2x64 .i8) (a2 : Vec Ideal S8192x32x2x32 .i8)
    (a3 : Vec Ideal S8192x32x16 .i8) (a4 : Vec Ideal S8192x32 .i16) (a : Fin 192) (o : Fin 8192) :
    Value.G5 a0 a1 a2 a3 a4 (ix2 a o)
      = (∑ k : Fin 8192, a0 (ix3 a 0 k) * refW a1 a2 a3 a4 k o : EReal) := by
  rw [G5_eq]
  refine (shapeCast_apply _ _ (ix2 a o) (ix3 a 0 o) (by
    rw [Shape.rowMajor_val_two, Shape.rowMajor_val_three]
    show (a.val * 1 + 0) * 8192 + o.val = a.val * 8192 + o.val
    omega)).trans ?_
  have z : (k0_pay6 (F := Ideal) (ix3 a 0 o) : EReal) = 0 := by
    show Ideal.ofBits .f32 0x00000000#32 = 0
    simp [Ideal.ofBits, Ideal.ieee]
  have e0 := part_apply 0 slices_S8192x32x2x4x2_o0_0_0_0_0_S8192x32x2x1x2 slices_S192x1x32x2x4x32_o0_0_0_0_0_0_S192x1x32x2x1x32 a0 a1 a2 a3 a4 a o
  have e1 := part_apply 1 slices_S8192x32x2x4x2_o0_0_0_1_0_S8192x32x2x1x2 slices_S192x1x32x2x4x32_o0_0_0_0_1_0_S192x1x32x2x1x32 a0 a1 a2 a3 a4 a o
  have e2 := part_apply 2 slices_S8192x32x2x4x2_o0_0_0_2_0_S8192x32x2x1x2 slices_S192x1x32x2x4x32_o0_0_0_0_2_0_S192x1x32x2x1x32 a0 a1 a2 a3 a4 a o
  have e3 := part_apply 3 slices_S8192x32x2x4x2_o0_0_0_3_0_S8192x32x2x1x2 slices_S192x1x32x2x4x32_o0_0_0_0_3_0_S192x1x32x2x1x32 a0 a1 a2 a3 a4 a o
  refine (congrArg₂ (fun x y : EReal => x + y) (congrArg₂ (fun x y : EReal => x + y) (congrArg₂ (fun x y : EReal => x + y)
    (congrArg₂ (fun x y : EReal => x + y) z e0) e1) e2) e3).trans ?_
  rw [← Fintype.sum_equiv rows (fun p => (a0 (ix3 a 0 (row p)) * refW a1 a2 a3 a4 (row p) o : EReal)) _ fun _ => rfl]
  simp only [Fintype.sum_prod_type, Fin.sum_univ_four, zero_add]

end Cert.ReferenceIdeal.Ref

end
-- ==== Proof.Host.lean ====
/- What the kernel's grid points read: the arrays that the host lines lay out, and each point's 256 columns of them, in terms
   of the arguments (hand-written, untrusted). -/
module

public import proofs.«01_k».proof.Proof.Gen.KernelIdeal.Value
public import Idealize.ShloMosaic.Lib.Pipeline.Value
public import Idealize.ShloMosaic.Lib.StableHlo.Run
public import Idealize.ShloMosaic.Lib.ValueIdxRank6

@[expose] public section

noncomputable section

namespace Cert.KernelIdeal.Host

open Cert.KernelIdeal Cert.KernelIdeal.Gen Idealize.ShloMosaic Idealize.ShloMosaic.TcCoe Idealize.ShloMosaic.ValueIdx
open Idealize.ShloMosaic.StableHlo

variable {F : FTy → Type} [FloatOps F]

/-! ## The host lines -/

/-- The activations lose their unit axis. -/
theorem x_eq (W : Valuation τ sig (Elt F)) : after hostOps0 W (main_v0 : DevRef τ sig)
    = shapeCast S192x8192 (W (main_arg0 : DevRef τ sig)) shapeCasts_S192x1x8192_S192x8192 := by
  after_results
  rfl

/-- The low nibbles are transposed and laid flat. -/
theorem ql_eq (W : Valuation τ sig (Elt F)) : after hostOps0 W (main_v2 : DevRef τ sig)
    = shapeCast S4096x8192 (transpose S32x2x64x8192 [1, 2, 3, 0] (W (main_arg1 : DevRef τ sig))
        transposes_S8192x32x2x64_S32x2x64x8192_1_2_3_0) shapeCasts_S32x2x64x8192_S4096x8192 := by
  after_results
  rfl

/-- The high pairs are transposed and laid flat. -/
theorem qh_eq (W : Valuation τ sig (Elt F)) : after hostOps0 W (main_v4 : DevRef τ sig)
    = shapeCast S2048x8192 (transpose S32x2x32x8192 [1, 2, 3, 0] (W (main_arg2 : DevRef τ sig))
        transposes_S8192x32x2x32_S32x2x32x8192_1_2_3_0) shapeCasts_S32x2x32x8192_S2048x8192 := by
  after_results
  rfl

/-- The integer scales are transposed. -/
theorem sc_eq (W : Valuation τ sig (Elt F)) : after hostOps0 W (main_v5 : DevRef τ sig)
    = transpose S32x16x8192 [1, 2, 0] (W (main_arg3 : DevRef τ sig)) transposes_S8192x32x16_S32x16x8192_1_2_0 := by
  after_results

/-- The half-precision patterns are transposed. -/
theorem d_eq (W : Valuation τ sig (Elt F)) : after hostOps0 W (main_v6 : DevRef τ sig)
    = transpose S32x8192 [1, 0] (W (main_arg4 : DevRef τ sig)) transposes_S8192x32_S32x8192_1_0 := by
  after_results

/-! ## The windows' blocks -/

/-- The activations' block stays at the origin. -/
theorem idx0 : ∀ t : Fin cfg0.N, win0_0.index t (0 : Fin 2) = 0 ∧ win0_0.index t (1 : Fin 2) = 0 :=
  (by decide +kernel : ∀ t : Fin grid0.N, _)
/-- The low nibbles' block moves one step along the columns per point. -/
theorem idx1 : ∀ t : Fin cfg0.N, win0_1.index t (0 : Fin 2) = 0 ∧ win0_1.index t (1 : Fin 2) = t.val :=
  (by decide +kernel : ∀ t : Fin grid0.N, _)
/-- The high pairs' block moves one step along the columns per point. -/
theorem idx2 : ∀ t : Fin cfg0.N, win0_2.index t (0 : Fin 2) = 0 ∧ win0_2.index t (1 : Fin 2) = t.val :=
  (by decide +kernel : ∀ t : Fin grid0.N, _)
/-- The integer scales' block moves one step along the columns per point. -/
theorem idx3 : ∀ t : Fin cfg0.N, win0_3.index t (0 : Fin 3) = 0 ∧ win0_3.index t (1 : Fin 3) = 0 ∧ win0_3.index t (2 : Fin 3) = t.val :=
  (by decide +kernel : ∀ t : Fin grid0.N, _)
/-- The half-precision patterns' block moves one step along the columns per point. -/
theorem idx4 : ∀ t : Fin cfg0.N, win0_4.index t (0 : Fin 2) = 0 ∧ win0_4.index t (1 : Fin 2) = t.val :=
  (by decide +kernel : ∀ t : Fin grid0.N, _)
/-- The result's block moves one step along the columns per point. -/
theorem idx5 : ∀ t : Fin cfg0.N, win0_5.index t (0 : Fin 2) = 0 ∧ win0_5.index t (1 : Fin 2) = t.val :=
  (by decide +kernel : ∀ t : Fin grid0.N, _)

/-- The result's block at point `t` is its columns from `256·t`. -/
theorem emb5 (t : Fin cfg0.N) (a : Fin 192) (o : Fin 256) (p : Fin 8192) (hp : p.val = 256 * t.val + o.val) :
    ((cfg0.win 5).blk t).view.emb (ix2 a o) = ix2 a p := by
  obtain ⟨e0, e1⟩ := idx5 t
  funext b; apply Fin.ext
  match b with
  | ⟨0, _⟩ => show win0_5.index t (0 : Fin 2) * 192 + 1 * a.val = a.val; omega
  | ⟨1, _⟩ => show win0_5.index t (1 : Fin 2) * 256 + 1 * o.val = p.val; omega

variable (m : (ℓ : Loc nD τ sig) → Buf (Elt F) ℓ)

/-- Every point reads all the activations. -/
theorem x_apply (c : Dev nD) (t : Fin cfg0.N) (a : Fin 192) (k : Fin 8192) :
    (iblk m c 0 t : Vec F S192x8192 .bf16) (ix2 a k) = (m ((c : Thread nD τ).loc main_arg0) : Vec F S192x1x8192 .bf16) (ix3 a 0 k) := by
  obtain ⟨e0, e1⟩ := idx0 t
  have e : ((cfg0.win 0).blk t).view.emb (ix2 a k) = ix2 a k := by
    funext b; apply Fin.ext
    match b with
    | ⟨0, _⟩ => show win0_0.index t (0 : Fin 2) * 192 + 1 * a.val = a.val; omega
    | ⟨1, _⟩ => show win0_0.index t (1 : Fin 2) * 8192 + 1 * k.val = k.val; omega
  show after hostOps0 (fun b => m (c, b)) (main_v0 : DevRef τ sig) (((cfg0.win 0).blk t).view.emb (ix2 a k)) = _
  rw [e, x_eq]
  exact shapeCast_apply _ _ (ix2 a k) (ix3 a 0 k) (by
    rw [Shape.rowMajor_val_two, Shape.rowMajor_val_three]
    show (a.val * 1 + 0) * 8192 + k.val = a.val * 8192 + k.val
    omega)

/-- Point `t` reads the low nibbles of its columns. -/
theorem ql_apply (c : Dev nD) (t : Fin cfg0.N) (r : Fin 4096) (o : Fin 256) (p : Fin 8192) (hp : p.val = 256 * t.val + o.val)
    (n : Fin 32) (h : Fin 2) (l : Fin 64) (hr : r.val = 128 * n.val + 64 * h.val + l.val) :
    (iblk m c 1 t : Vec F S4096x256 .i8) (ix2 r o) = (m ((c : Thread nD τ).loc main_arg1) : Vec F S8192x32x2x64 .i8) (ix4 p n h l) := by
  obtain ⟨e0, e1⟩ := idx1 t
  have e : ((cfg0.win 1).blk t).view.emb (ix2 r o) = ix2 r p := by
    funext b; apply Fin.ext
    match b with
    | ⟨0, _⟩ => show win0_1.index t (0 : Fin 2) * 4096 + 1 * r.val = r.val; omega
    | ⟨1, _⟩ => show win0_1.index t (1 : Fin 2) * 256 + 1 * o.val = p.val; omega
  show after hostOps0 (fun b => m (c, b)) (main_v2 : DevRef τ sig) (((cfg0.win 1).blk t).view.emb (ix2 r o)) = _
  rw [e, ql_eq]
  refine (shapeCast_apply _ _ (ix2 r p) (ix4 n h l p) (by
    rw [Shape.rowMajor_val_two, Shape.rowMajor_val_four]
    show ((n.val * 2 + h.val) * 64 + l.val) * 8192 + p.val = r.val * 8192 + p.val
    omega)).trans ?_
  exact transpose_apply _ _ _ (ix4 n h l p) (ix4 p n h l) (fun b => by
    match b with | ⟨0, _⟩ => rfl | ⟨1, _⟩ => rfl | ⟨2, _⟩ => rfl | ⟨3, _⟩ => rfl)

/-- Point `t` reads the high pairs of its columns. -/
theorem qh_apply (c : Dev nD) (t : Fin cfg0.N) (r : Fin 2048) (o : Fin 256) (p : Fin 8192) (hp : p.val = 256 * t.val + o.val)
    (n : Fin 32) (h : Fin 2) (l : Fin 32) (hr : r.val = 64 * n.val + 32 * h.val + l.val) :
    (iblk m c 2 t : Vec F S2048x256 .i8) (ix2 r o) = (m ((c : Thread nD τ).loc main_arg2) : Vec F S8192x32x2x32 .i8) (ix4 p n h l) := by
  obtain ⟨e0, e1⟩ := idx2 t
  have e : ((cfg0.win 2).blk t).view.emb (ix2 r o) = ix2 r p := by
    funext b; apply Fin.ext
    match b with
    | ⟨0, _⟩ => show win0_2.index t (0 : Fin 2) * 2048 + 1 * r.val = r.val; omega
    | ⟨1, _⟩ => show win0_2.index t (1 : Fin 2) * 256 + 1 * o.val = p.val; omega
  show after hostOps0 (fun b => m (c, b)) (main_v4 : DevRef τ sig) (((cfg0.win 2).blk t).view.emb (ix2 r o)) = _
  rw [e, qh_eq]
  refine (shapeCast_apply _ _ (ix2 r p) (ix4 n h l p) (by
    rw [Shape.rowMajor_val_two, Shape.rowMajor_val_four]
    show ((n.val * 2 + h.val) * 32 + l.val) * 8192 + p.val = r.val * 8192 + p.val
    omega)).trans ?_
  exact transpose_apply _ _ _ (ix4 n h l p) (ix4 p n h l) (fun b => by
    match b with | ⟨0, _⟩ => rfl | ⟨1, _⟩ => rfl | ⟨2, _⟩ => rfl | ⟨3, _⟩ => rfl)

/-- Point `t` reads the integer scales of its columns. -/
theorem sc_apply (c : Dev nD) (t : Fin cfg0.N) (n : Fin 32) (s : Fin 16) (o : Fin 256) (p : Fin 8192)
    (hp : p.val = 256 * t.val + o.val) :
    (iblk m c 3 t : Vec F S32x16x256 .i8) (ix3 n s o) = (m ((c : Thread nD τ).loc main_arg3) : Vec F S8192x32x16 .i8) (ix3 p n s) := by
  obtain ⟨e0, e1, e2⟩ := idx3 t
  have e : ((cfg0.win 3).blk t).view.emb (ix3 n s o) = ix3 n s p := by
    funext b; apply Fin.ext
    match b with
    | ⟨0, _⟩ => show win0_3.index t (0 : Fin 3) * 32 + 1 * n.val = n.val; omega
    | ⟨1, _⟩ => show win0_3.index t (1 : Fin 3) * 16 + 1 * s.val = s.val; omega
    | ⟨2, _⟩ => show win0_3.index t (2 : Fin 3) * 256 + 1 * o.val = p.val; omega
  show after hostOps0 (fun b => m (c, b)) (main_v5 : DevRef τ sig) (((cfg0.win 3).blk t).view.emb (ix3 n s o)) = _
  rw [e, sc_eq]
  exact transpose_apply _ _ _ (ix3 n s p) (ix3 p n s) (fun b => by
    match b with | ⟨0, _⟩ => rfl | ⟨1, _⟩ => rfl | ⟨2, _⟩ => rfl)

/-- Point `t` reads the half-precision patterns of its columns. -/
theorem d_apply (c : Dev nD) (t : Fin cfg0.N) (n : Fin 32) (o : Fin 256) (p : Fin 8192) (hp : p.val = 256 * t.val + o.val) :
    (iblk m c 4 t : Vec F S32x256 .i16) (ix2 n o) = (m ((c : Thread nD τ).loc main_arg4) : Vec F S8192x32 .i16) (ix2 p n) := by
  obtain ⟨e0, e1⟩ := idx4 t
  have e : ((cfg0.win 4).blk t).view.emb (ix2 n o) = ix2 n p := by
    funext b; apply Fin.ext
    match b with
    | ⟨0, _⟩ => show win0_4.index t (0 : Fin 2) * 32 + 1 * n.val = n.val; omega
    | ⟨1, _⟩ => show win0_4.index t (1 : Fin 2) * 256 + 1 * o.val = p.val; omega
  show after hostOps0 (fun b => m (c, b)) (main_v6 : DevRef τ sig) (((cfg0.win 4).blk t).view.emb (ix2 n o)) = _
  rw [e, d_eq]
  exact transpose_apply _ _ _ (ix2 n p) (ix2 p n) (fun b => by
    match b with | ⟨0, _⟩ => rfl | ⟨1, _⟩ => rfl)

end Cert.KernelIdeal.Host

end
-- ==== Proof.Value.lean ====
/- The value claim: over the extended reals the kernel's result array is the reference's (hand-written, untrusted). -/
module

public import proofs.«01_k».proof.Defs
public import proofs.«01_k».proof.Proof.Rows
public import proofs.«01_k».proof.Proof.Ref
public import proofs.«01_k».proof.Proof.Host

@[expose] public section

noncomputable section

namespace Cert.Proof

open Idealize.ShloMosaic Idealize.ShloMosaic.TcCoe Idealize.ShloMosaic.ValueIdx Idealize.SL.Sem

/-- The kernel's form of a weight, four times the code less 128 against a quarter of the scale, is the reference's. -/
theorem weight_eq (z : Int) (d s : EReal) :
    ((((4 * z - 128 : Int) : ℝ) : EReal) * (d * Ideal.ofBits .f32 0x3E800000#32 * s) : EReal)
      = (((z : ℝ) : EReal) - Ideal.ofBits .bf16 0x4200#16) * (d * s) := by
  have q : Ideal.ofBits .f32 0x3E800000#32 = ((1 / 4 : ℝ) : EReal) := by
    simp [Ideal.ofBits, Ideal.ieee, -EReal.coe_mul]; norm_num
  have t : Ideal.ofBits .bf16 0x4200#16 = ((32 : ℝ) : EReal) := by
    simp [Ideal.ofBits, Ideal.ieee, -EReal.coe_mul]; norm_num
  have e : (((4 * z - 128 : Int) : ℝ) : EReal) * ((1 / 4 : ℝ) : EReal) = (((z : ℝ) - 32 : ℝ) : EReal) := by
    rw [← EReal.coe_mul]
    refine congrArg ((↑) : ℝ → EReal) ?_
    push_cast; ring
  rw [q, t, ← EReal.coe_sub, ← e]
  simp only [mul_comm, mul_left_comm, mul_assoc]

open Cert.KernelIdeal Cert.KernelIdeal.Gen in
/-- The reference's result, of the kernel's arguments. -/
abbrev G (m : (ℓ : Loc nD τ sig) → Buf (Elt Ideal) ℓ) (c : Dev nD) : Vec Ideal S192x8192 .bf16 :=
  Cert.ReferenceIdeal.Value.G5 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

open Cert.KernelIdeal Cert.KernelIdeal.Gen in
/-- A weight that a point builds is the reference's weight of the same row and column. -/
theorem wgt_eq (m : (ℓ : Loc nD τ sig) → Buf (Elt Ideal) ℓ) (c : Dev nD) (t : Fin cfg0.N) (k : Fin 8192) (o : Fin 256)
    (p : Fin 8192) (hp : p.val = 256 * t.val + o.val) :
    Rows.wgt (iblk m c 1 t) (iblk m c 2 t) (iblk m c 3 t) (iblk m c 4 t) k o
      = Cert.ReferenceIdeal.Ref.refW (m ((c : Thread nD τ).loc main_arg1)) (m ((c : Thread nD τ).loc main_arg2))
          (m ((c : Thread nD τ).loc main_arg3)) (m ((c : Thread nD τ).loc main_arg4)) k p := by
  have hk := k.isLt
  unfold Rows.wgt Rows.eff Cert.ReferenceIdeal.Ref.refW
  have n : (⟨k.val / 16 / 16, by omega⟩ : Fin 32) = ⟨k.val / 256, by omega⟩ := Fin.ext (by show k.val / 16 / 16 = k.val / 256; omega)
  rw [Host.ql_apply m c t _ o p hp ⟨k.val / 256, by omega⟩ ⟨k.val / 128 % 2, by omega⟩ ⟨32 * (k.val / 32 % 2) + k.val % 32, by omega⟩
      (by show 64 * (k.val / 128) + 32 * (k.val / 32 % 2) + k.val % 32
            = 128 * (k.val / 256) + 64 * (k.val / 128 % 2) + (32 * (k.val / 32 % 2) + k.val % 32); omega),
    Host.qh_apply m c t _ o p hp ⟨k.val / 256, by omega⟩ ⟨k.val / 128 % 2, by omega⟩ ⟨k.val % 32, by omega⟩
      (by show 32 * (k.val / 128) + k.val % 32 = 64 * (k.val / 256) + 32 * (k.val / 128 % 2) + k.val % 32; omega),
    Host.sc_apply m c t _ _ o p hp, Host.d_apply m c t _ o p hp]
  exact (weight_eq _ _ _).trans (by rw [n])

open Cert.KernelIdeal Cert.KernelIdeal.Gen in
/-- What a point writes back is its block of the reference's result. -/
theorem flushed_eq (m : (ℓ : Loc nD τ sig) → Buf (Elt Ideal) ℓ) (c : Dev nD) (t : Fin cfg0.N) :
    (dats m 0 c).flushed 5 t = ((cfg0.win 5).blk t).view.read (Elt Ideal) (G m c) := by
  rw [Value.flushed5_A]
  funext j
  obtain ⟨a, o, rfl⟩ : ∃ (a : Fin 192) (o : Fin 256), j = ix2 a o := ⟨j 0, j 1, eq_ix2 j⟩
  have ht : t.val < 32 := t.isLt
  have hp : 256 * t.val + o.val < 8192 := by have := o.isLt; omega
  refine (Rows.out_apply _ _ _ _ _ _ _ _ _ _ _ _ _ _ _ _ _ _ _ _ _ _ _ a o).trans ?_
  show _ = G m c (((cfg0.win 5).blk t).view.emb (ix2 a o))
  rw [Host.emb5 t a o ⟨256 * t.val + o.val, hp⟩ rfl]
  refine Eq.trans ?_ (Cert.ReferenceIdeal.Ref.G5_apply _ _ _ _ _ a _).symm
  exact Finset.sum_congr rfl fun k _ => congrArg₂ (fun x y : EReal => x * y) (Host.x_apply m c t a k)
    (wgt_eq m c t k o ⟨256 * t.val + o.val, hp⟩ rfl)

open Cert.KernelIdeal Cert.KernelIdeal.Gen in
/-- Every index of the result is in one point's block. -/
theorem covered (i : S192x8192.Idx) : ∃ t : Fin cfg0.N, (cfg0.win 5).flush t = true ∧ i ∈ ((cfg0.win 5).blk t).view.set := by
  obtain ⟨a, p, rfl⟩ : ∃ (a : Fin 192) (p : Fin 8192), i = ix2 a p := ⟨i 0, i 1, eq_ix2 i⟩
  have hp := p.isLt
  have ht : p.val / 256 < cfg0.N := by show p.val / 256 < 32; omega
  refine ⟨⟨p.val / 256, ht⟩, flush0_5 _, ?_⟩
  have h := ((cfg0.win 5).blk ⟨p.val / 256, ht⟩).view.emb_mem_set (ix2 a (⟨p.val % 256, by omega⟩ : Fin 256))
  rwa [Host.emb5 ⟨p.val / 256, ht⟩ a ⟨p.val % 256, by omega⟩ p (by show p.val = 256 * (p.val / 256) + p.val % 256; omega)] at h

open Cert.KernelIdeal Cert.KernelIdeal.Gen in
/-- The kernel's result array after the run is the reference's result. -/
theorem final (m : (ℓ : Loc nD τ sig) → Buf (Elt Ideal) ℓ) (c : Dev nD) : (dats m 0 c).arrAt 5 cfg0.N = G m c :=
  (dats m 0 c).arrAt_eq_of_cover 5 (G m c) (fun t _ => flushed_eq m c t) covered

/-- THE VALUE CLAIM: from the same arguments the kernel and the reference, both over the extended reals, end with equal
    results and their arguments unchanged. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => G m c, ?_, ?_⟩
  · refine (θ_run _ _ _).mono (fun r h c => ?_) (Cert.KernelIdeal.Value.run_blocks m g)
    obtain ⟨h0, h1⟩ := h c
    exact ⟨h0.trans (final m c), h1⟩
  · refine (θ_run _ _ _).mono (fun r h c => ?_) (Cert.ReferenceIdeal.Value.run m' g')
    obtain ⟨h0, h1⟩ := h c
    obtain ⟨e0, e1, e2, e3, e4⟩ := hm c
    refine ⟨h0.trans ?_, h1⟩
    rw [e0, e1, e2, e3, e4]

end Cert.Proof

end
-- ==== Proof.lean ====
/- The certificate: the three frames, `preserves` and the value claim, each proved in its own module (hand-written, untrusted). -/
module

public import proofs.«01_k».proof.Defs
public import proofs.«01_k».proof.Proof.Claims
public import proofs.«01_k».proof.Proof.Value

@[expose] public section

namespace Cert.Proof

/-- Everything the certificate claims. -/
theorem claim : Cert.Claim :=
  ⟨Cert.Kernel.Gen.facts, Cert.KernelIdeal.Gen.facts, Cert.ReferenceIdeal.Gen.facts, frame_p, frame_pi, frame_ri, preserves, algebraic⟩

end Cert.Proof

end
